-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S256x384 : Shape := ⟨2, ![256, 384]⟩
abbrev S256x384x8 : Shape := ⟨3, ![256, 384, 8]⟩
abbrev S128x256 : Shape := ⟨2, ![128, 256]⟩
abbrev S128x256x8 : Shape := ⟨3, ![128, 256, 8]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S_S4096 : S_.BroadcastsInDim S4096 (![] : Fin 0 → Fin S4096.rank)
  reducesTo_S4096_S_d0 : S4096.ReducesTo [0] S_
  bcast_S_S16384 : S_.BroadcastsInDim S16384 (![] : Fin 0 → Fin S16384.rank)
  reducesTo_S16384_S_d0 : S16384.ReducesTo [0] S_
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_arg0 : FVec F S4096x256 .f32) (main_arg5 : IVec S16384 32) (main_v12 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v12 main_v17
  let main_v19 : IVec S16384 32 := iotaInDim S16384 32 0
  let main_c_6 : IVec S_ 32 := constantI S_ 32 2048#32
  let main_v20 : IVec S16384 32 := broadcastInDim S16384 ![] bcast_S_S16384 main_c_6
  let main_v21 : IVec S16384 32 := Host.divsi main_v19 main_v20
  let main_v22 : IVec S16384 1 := cmpi .eq main_arg5 main_v21
  let main_c_7 : IVec S_ 1 := constantI S_ 1 1#1
  let main_v23 : IVec S_ 1 := (fun x v => Host.reduce IntOp.andi x v reducesTo_S16384_S_d0 h_S_) main_v22 main_c_7
  let main_v24 : IVec S_ 1 := andi main_v18 main_v23
  let main_v25 : FVec F S4096x256 .f32 := Host.absf main_arg0
  let main_cst_8 : FVec F S_ .f32 := constant S_ .f32 0x7F800000#32
  let main_v26 : FVec F S4096x256 .f32 := broadcastInDim S4096x256 ![] bcast_S_S4096x256 main_cst_8
  let main_v27 : IVec S4096x256 1 := cmpf .olt main_v25 main_v26
  let main_c_9 : IVec S_ 1 := constantI S_ 1 1#1
  let main_v28 : IVec S_ 1 := (fun x v => Host.reduce IntOp.andi x v reducesTo_S4096x256_S_d0_1 h_S_) main_v27 main_c_9
  let main_v29 : IVec S_ 1 := andi main_v24 main_v28
  main_v29

def fn {F : FTy → Type} [FloatOps F] (main_arg0 : FVec F S4096x256 .f32) (main_arg1 : FVec F S4096x3 .f32) (main_arg2 : IVec S4096 32) (main_arg3 : FVec F S16384x128 .f32) (main_arg4 : FVec F S16384x3 .f32) (main_arg5 : IVec S16384 32) (main_arg6 : FVec F S256x384 .f32) (main_arg7 : FVec F S256x384x8 .f32) (main_arg8 : FVec F S128x256 .f32) (main_arg9 : FVec F S128x256x8 .f32) : IVec S_ 1 :=
  let main_cst : FVec F S_ .f32 := constant S_ .f32 0x00000000#32
  let main_v0 : FVec F S4096x3 .f32 := broadcastInDim S4096x3 ![] bcast_S_S4096x3 main_cst
  let main_v1 : IVec S4096x3 1 := cmpf .oge main_arg1 main_v0
  let main_cst_0 : FVec F S_ .f32 := constant S_ .f32 0x3F800000#32
  let main_v2 : FVec F S4096x3 .f32 := broadcastInDim S4096x3 ![] bcast_S_S4096x3 main_cst_0
  let main_v3 : IVec S4096x3 1 := cmpf .ole main_arg1 main_v2
  let main_v4 : IVec S4096x3 1 := andi main_v1 main_v3
  let main_c : IVec S_ 1 := constantI S_ 1 1#1
  let main_v5 : IVec S_ 1 := (fun x v => Host.reduce IntOp.andi x v reducesTo_S4096x3_S_d0_1 h_S_) main_v4 main_c
  let main_cst_1 : FVec F S_ .f32 := constant S_ .f32 0x00000000#32
  let main_v6 : FVec F S16384x3 .f32 := broadcastInDim S16384x3 ![] bcast_S_S16384x3 main_cst_1
  let main_v7 : IVec S16384x3 1 := cmpf .oge main_arg4 main_v6
  let main_cst_2 : FVec F S_ .f32 := constant S_ .f32 0x3F800000#32
  let main_v8 : FVec F S16384x3 .f32 := broadcastInDim S16384x3 ![] bcast_S_S16384x3 main_cst_2
  let main_v9 : IVec S16384x3 1 := cmpf .ole main_arg4 main_v8
  let main_v10 : IVec S16384x3 1 := andi main_v7 main_v9
  let main_c_3 : IVec S_ 1 := constantI S_ 1 1#1
  let main_v11 : IVec S_ 1 := (fun x v => Host.reduce IntOp.andi x v reducesTo_S16384x3_S_d0_1 h_S_) main_v10 main_c_3
  let main_v12 : IVec S_ 1 := andi main_v5 main_v11
  let main_v13 : IVec S4096 32 := iotaInDim S4096 32 0
  let main_c_4 : IVec S_ 32 := constantI S_ 32 512#32
  let main_v14 : IVec S4096 32 := broadcastInDim S4096 ![] bcast_S_S4096 main_c_4
  let main_v15 : IVec S4096 32 := Host.divsi main_v13 main_v14
  let main_v16 : IVec S4096 1 := cmpi .eq main_arg2 main_v15
  fn_part1 (F := F) main_arg0 main_arg5 main_v12 main_v16
-- ==== Kernel.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S256x384 : Shape := ⟨2, ![256, 384]⟩
abbrev S256x384x8 : Shape := ⟨3, ![256, 384, 8]⟩
abbrev S128x256 : Shape := ⟨2, ![128, 256]⟩
abbrev S128x256x8 : Shape := ⟨3, ![128, 256, 8]⟩
abbrev S3x4096 : Shape := ⟨2, ![3, 4096]⟩
abbrev S384x256 : Shape := ⟨2, ![384, 256]⟩
abbrev S8x384x256 : Shape := ⟨3, ![8, 384, 256]⟩
abbrev S3072x256 : Shape := ⟨2, ![3072, 256]⟩
abbrev S_ : Shape := ⟨0, ![]⟩
abbrev S256x128 : Shape := ⟨2, ![256, 128]⟩
abbrev S8x256x128 : Shape := ⟨3, ![8, 256, 128]⟩
abbrev S2048x128 : Shape := ⟨2, ![2048, 128]⟩
abbrev S3x512 : Shape := ⟨2, ![3, 512]⟩
abbrev S512x256 : Shape := ⟨2, ![512, 256]⟩
abbrev S1024x3 : Shape := ⟨2, ![1024, 3]⟩
abbrev S1024x128 : Shape := ⟨2, ![1024, 128]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S3x3 : Shape := ⟨2, ![3, 3]⟩
abbrev S1x3 : Shape := ⟨2, ![1, 3]⟩
abbrev S1x256 : Shape := ⟨2, ![1, 256]⟩
abbrev S1024x384 : Shape := ⟨2, ![1024, 384]⟩
abbrev S1024x3072 : Shape := ⟨2, ![1024, 3072]⟩
abbrev S1024x2048 : Shape := ⟨2, ![1024, 2048]⟩

abbrev nBuf : Space → Nat
  | .hbm => 60
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x3, .f32⟩
  | .hbm, ⟨2, _⟩ => ⟨S4096, .i32⟩
  | .hbm, ⟨3, _⟩ => ⟨S16384x128, .f32⟩
  | .hbm, ⟨4, _⟩ => ⟨S16384x3, .f32⟩
  | .hbm, ⟨5, _⟩ => ⟨S16384, .i32⟩
  | .hbm, ⟨6, _⟩ => ⟨S256x384, .f32⟩
  | .hbm, ⟨7, _⟩ => ⟨S256x384x8, .f32⟩
  | .hbm, ⟨8, _⟩ => ⟨S128x256, .f32⟩
  | .hbm, ⟨9, _⟩ => ⟨S128x256x8, .f32⟩
  | .hbm, ⟨10, _⟩ => ⟨S3x4096, .f32⟩
  | .hbm, ⟨11, _⟩ => ⟨S384x256, .f32⟩
  | .hbm, ⟨12, _⟩ => ⟨S384x256, .bf16⟩
  | .hbm, ⟨13, _⟩ => ⟨S8x384x256, .f32⟩
  | .hbm, ⟨14, _⟩ => ⟨S3072x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S3072x256, .f32⟩
  | .hbm, ⟨33, _⟩ => ⟨S3072x256, .f32⟩
  | .hbm, ⟨34, _⟩ => ⟨S3072x256, .bf16⟩
  | .hbm, ⟨35, _⟩ => ⟨S256x128, .f32⟩
  | .hbm, ⟨36, _⟩ => ⟨S256x128, .bf16⟩
  | .hbm, ⟨37, _⟩ => ⟨S8x256x128, .f32⟩
  | .hbm, ⟨38, _⟩ => ⟨S2048x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2048x128, .f32⟩
  | .hbm, ⟨57, _⟩ => ⟨S2048x128, .f32⟩
  | .hbm, ⟨58, _⟩ => ⟨S2048x128, .bf16⟩
  | .hbm, ⟨59, _⟩ => ⟨S16384x128, .f32⟩
  | .local _ .vmem, ⟨0, _⟩ => ⟨S3x512, .f32⟩
  | .local _ .vmem, ⟨1, _⟩ => ⟨S3x512, .f32⟩
  | .local _ .vmem, ⟨2, _⟩ => ⟨S512x256, .f32⟩
  | .local _ .vmem, ⟨3, _⟩ => ⟨S512x256, .f32⟩
  | .local _ .vmem, ⟨4, _⟩ => ⟨S1024x3, .f32⟩
  | .local _ .vmem, ⟨5, _⟩ => ⟨S1024x3, .f32⟩
  | .local _ .vmem, ⟨6, _⟩ => ⟨S1024x128, .f32⟩
  | .local _ .vmem, ⟨7, _⟩ => ⟨S1024x128, .f32⟩
  | .local _ .vmem, ⟨8, _⟩ => ⟨S384x256, .bf16⟩
  | .local _ .vmem, ⟨9, _⟩ => ⟨S3072x256, .bf16⟩
  | .local _ .vmem, ⟨10, _⟩ => ⟨S256x128, .bf16⟩
  | .local _ .vmem, ⟨11, _⟩ => ⟨S2048x128, .bf16⟩
  | .local _ .vmem, ⟨12, _⟩ => ⟨S1024x128, .f32⟩
  | .local _ .vmem, ⟨13, _⟩ => ⟨S1024x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_cst_2 : Ref sig .tc := ⟨.hbm, 20, rfl⟩
abbrev main_cst_3 : Ref sig .tc := ⟨.hbm, 21, rfl⟩
abbrev main_v7 : Ref sig .tc := ⟨.hbm, 22, rfl⟩
abbrev main_cst_4 : Ref sig .tc := ⟨.hbm, 23, rfl⟩
abbrev main_v8 : Ref sig .tc := ⟨.hbm, 24, rfl⟩
abbrev main_v9 : Ref sig .tc := ⟨.hbm, 25, rfl⟩
abbrev main_cst_5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_6 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_cst_8 : Ref sig .tc := ⟨.hbm, 40, rfl⟩
abbrev main_v21 : Ref sig .tc := ⟨.hbm, 41, rfl⟩
abbrev main_cst_9 : Ref sig .tc := ⟨.hbm, 42, rfl⟩
abbrev main_v22 : Ref sig .tc := ⟨.hbm, 43, rfl⟩
abbrev main_cst_10 : Ref sig .tc := ⟨.hbm, 44, rfl⟩
abbrev main_cst_11 : Ref sig .tc := ⟨.hbm, 45, rfl⟩
abbrev main_v23 : Ref sig .tc := ⟨.hbm, 46, rfl⟩
abbrev main_cst_12 : Ref sig .tc := ⟨.hbm, 47, rfl⟩
abbrev main_v24 : Ref sig .tc := ⟨.hbm, 48, rfl⟩
abbrev main_v25 : Ref sig .tc := ⟨.hbm, 49, rfl⟩
abbrev main_cst_13 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_14 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S256x384 : Shape := ⟨2, ![256, 384]⟩
abbrev S256x384x8 : Shape := ⟨3, ![256, 384, 8]⟩
abbrev S128x256 : Shape := ⟨2, ![128, 256]⟩
abbrev S128x256x8 : Shape := ⟨3, ![128, 256, 8]⟩
abbrev S4096x1 : Shape := ⟨2, ![4096, 1]⟩
abbrev S_ : Shape := ⟨0, ![]⟩
abbrev S4096x4 : Shape := ⟨2, ![4096, 4]⟩
abbrev S16384x1 : Shape := ⟨2, ![16384, 1]⟩
abbrev S16384x4 : Shape := ⟨2, ![16384, 4]⟩
abbrev S4x4096 : Shape := ⟨2, ![4, 4096]⟩
abbrev S16384x4096 : Shape := ⟨2, ![16384, 4096]⟩
abbrev S1x4096 : Shape := ⟨2, ![1, 4096]⟩
abbrev S16384x3x1 : Shape := ⟨3, ![16384, 3, 1]⟩
abbrev S16384x3x3 : Shape := ⟨3, ![16384, 3, 3]⟩
abbrev S16384x1x3 : Shape := ⟨3, ![16384, 1, 3]⟩
abbrev S16384x3x256 : Shape := ⟨3, ![16384, 3, 256]⟩
abbrev S16384x256 : Shape := ⟨2, ![16384, 256]⟩
abbrev S16384x384 : Shape := ⟨2, ![16384, 384]⟩
abbrev S12 : Shape := ⟨1, ![12]⟩
abbrev S384x256 : Shape := ⟨2, ![384, 256]⟩
abbrev S16384x384x1 : Shape := ⟨3, ![16384, 384, 1]⟩
abbrev S11 : Shape := ⟨1, ![11]⟩
abbrev S1x1x11 : Shape := ⟨3, ![1, 1, 11]⟩
abbrev S16384x384x11 : Shape := ⟨3, ![16384, 384, 11]⟩
abbrev S10 : Shape := ⟨1, ![10]⟩
abbrev S1x1x10 : Shape := ⟨3, ![1, 1, 10]⟩
abbrev S16384x384x10 : Shape := ⟨3, ![16384, 384, 10]⟩
abbrev S9 : Shape := ⟨1, ![9]⟩
abbrev S1x1x9 : Shape := ⟨3, ![1, 1, 9]⟩
abbrev S16384x384x9 : Shape := ⟨3, ![16384, 384, 9]⟩
abbrev S8 : Shape := ⟨1, ![8]⟩
abbrev S1x1x8 : Shape := ⟨3, ![1, 1, 8]⟩
abbrev S16384x384x8 : Shape := ⟨3, ![16384, 384, 8]⟩
abbrev S256x128 : Shape := ⟨2, ![256, 128]⟩
abbrev S16384x256x1 : Shape := ⟨3, ![16384, 256, 1]⟩
abbrev S16384x256x11 : Shape := ⟨3, ![16384, 256, 11]⟩
abbrev S16384x256x10 : Shape := ⟨3, ![16384, 256, 10]⟩
abbrev S16384x256x9 : Shape := ⟨3, ![16384, 256, 9]⟩
abbrev S16384x256x8 : Shape := ⟨3, ![16384, 256, 8]⟩

abbrev nBuf : Space → Nat
  | .hbm => 510
  | .vmem => 0
  | .smem => 0
  | _ => 0

abbrev hbmTy0_0 (i : Nat) : BufTy := match i % 128 with
  | 0 => ⟨S4096x256, .f32⟩
  | 1 => ⟨S4096x3, .f32⟩
  | 2 => ⟨S4096, .i32⟩
  | 3 => ⟨S16384x128, .f32⟩
  | 4 => ⟨S16384x3, .f32⟩
  | 5 => ⟨S16384, .i32⟩
  | 6 => ⟨S256x384, .f32⟩
  | 7 => ⟨S256x384x8, .f32⟩
  | 8 => ⟨S128x256, .f32⟩
  | 9 => ⟨S128x256x8, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x4, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x4, .f32⟩
  | 22 => ⟨S4096x4, .f32⟩
  | 23 => ⟨S_, .f32⟩
  | 24 => ⟨S4096, .f32⟩
  | 25 => ⟨S_, .f32⟩
  | 26 => ⟨S4096, .f32⟩
  | 27 => ⟨S_, .f32⟩
  | 28 => ⟨S4096, .f32⟩
  | 29 => ⟨S4096, .i1⟩
  | 30 => ⟨S_, .f32⟩
  | 31 => ⟨S_, .f32⟩
  | 32 => ⟨S4096, .f32⟩
  | 33 => ⟨S4096, .f32⟩
  | 34 => ⟨S_, .f32⟩
  | 35 => ⟨S4096, .f32⟩
  | 36 => ⟨S4096, .i1⟩
  | 37 => ⟨S_, .f32⟩
  | 38 => ⟨S_, .f32⟩
  | 39 => ⟨S4096, .f32⟩
  | 40 => ⟨S4096, .f32⟩
  | 41 => ⟨S_, .f32⟩
  | 42 => ⟨S4096, .f32⟩
  | 43 => ⟨S4096, .i1⟩
  | 44 => ⟨S_, .f32⟩
  | 45 => ⟨S_, .f32⟩
  | 46 => ⟨S4096, .f32⟩
  | 47 => ⟨S4096, .f32⟩
  | 48 => ⟨S_, .f32⟩
  | 49 => ⟨S4096, .f32⟩
  | 50 => ⟨S4096, .i1⟩
  | 51 => ⟨S_, .f32⟩
  | 52 => ⟨S_, .f32⟩
  | 53 => ⟨S4096, .f32⟩
  | 54 => ⟨S4096, .f32⟩
  | 55 => ⟨S_, .f32⟩
  | 56 => ⟨S4096, .f32⟩
  | 57 => ⟨S4096, .i1⟩
  | 58 => ⟨S_, .f32⟩
  | 59 => ⟨S_, .f32⟩
  | 60 => ⟨S4096, .f32⟩
  | 61 => ⟨S4096, .f32⟩
  | 62 => ⟨S_, .f32⟩
  | 63 => ⟨S4096, .f32⟩
  | 64 => ⟨S4096, .i1⟩
  | 65 => ⟨S_, .f32⟩
  | 66 => ⟨S_, .f32⟩
  | 67 => ⟨S4096, .f32⟩
  | 68 => ⟨S4096, .f32⟩
  | 69 => ⟨S_, .f32⟩
  | 70 => ⟨S4096, .f32⟩
  | 71 => ⟨S4096, .i1⟩
  | 72 => ⟨S_, .f32⟩
  | 73 => ⟨S_, .f32⟩
  | 74 => ⟨S4096, .f32⟩
  | 75 => ⟨S4096, .f32⟩
  | 76 => ⟨S_, .f32⟩
  | 77 => ⟨S4096, .f32⟩
  | 78 => ⟨S4096, .i1⟩
  | 79 => ⟨S_, .f32⟩
  | 80 => ⟨S_, .f32⟩
  | 81 => ⟨S4096, .f32⟩
  | 82 => ⟨S4096, .f32⟩
  | 83 => ⟨S_, .f32⟩
  | 84 => ⟨S4096, .f32⟩
  | 85 => ⟨S4096, .i1⟩
  | 86 => ⟨S4096, .f32⟩
  | 87 => ⟨S_, .f32⟩
  | 88 => ⟨S4096, .f32⟩
  | 89 => ⟨S4096, .f32⟩
  | 90 => ⟨S4096, .f32⟩
  | 91 => ⟨S4096, .f32⟩
  | 92 => ⟨S4096, .f32⟩
  | 93 => ⟨S16384x4, .f32⟩
  | 94 => ⟨S_, .f32⟩
  | 95 => ⟨S16384, .f32⟩
  | 96 => ⟨S_, .f32⟩
  | 97 => ⟨S16384, .f32⟩
  | 98 => ⟨S_, .f32⟩
  | 99 => ⟨S16384, .f32⟩
  | 100 => ⟨S16384, .i1⟩
  | 101 => ⟨S_, .f32⟩
  | 102 => ⟨S_, .f32⟩
  | 103 => ⟨S16384, .f32⟩
  | 104 => ⟨S16384, .f32⟩
  | 105 => ⟨S_, .f32⟩
  | 106 => ⟨S16384, .f32⟩
  | 107 => ⟨S16384, .i1⟩
  | 108 => ⟨S_, .f32⟩
  | 109 => ⟨S_, .f32⟩
  | 110 => ⟨S16384, .f32⟩
  | 111 => ⟨S16384, .f32⟩
  | 112 => ⟨S_, .f32⟩
  | 113 => ⟨S16384, .f32⟩
  | 114 => ⟨S16384, .i1⟩
  | 115 => ⟨S_, .f32⟩
  | 116 => ⟨S_, .f32⟩
  | 117 => ⟨S16384, .f32⟩
  | 118 => ⟨S16384, .f32⟩
  | 119 => ⟨S_, .f32⟩
  | 120 => ⟨S16384, .f32⟩
  | 121 => ⟨S16384, .i1⟩
  | 122 => ⟨S_, .f32⟩
  | 123 => ⟨S_, .f32⟩
  | 124 => ⟨S16384, .f32⟩
  | 125 => ⟨S16384, .f32⟩
  | 126 => ⟨S_, .f32⟩
  | 127 => ⟨S16384, .f32⟩
  | _ => ⟨S4096x256, .f32⟩

abbrev hbmTy0_1 (i : Nat) : BufTy := match i % 128 with
  | 0 => ⟨S16384, .i1⟩
  | 1 => ⟨S_, .f32⟩
  | 2 => ⟨S_, .f32⟩
  | 3 => ⟨S16384, .f32⟩
  | 4 => ⟨S16384, .f32⟩
  | 5 => ⟨S_, .f32⟩
  | 6 => ⟨S16384, .f32⟩
  | 7 => ⟨S16384, .i1⟩
  | 8 => ⟨S_, .f32⟩
  | 9 => ⟨S_, .f32⟩
  | 10 => ⟨S16384, .f32⟩
  | 11 => ⟨S16384, .f32⟩
  | 12 => ⟨S_, .f32⟩
  | 13 => ⟨S16384, .f32⟩
  | 14 => ⟨S16384, .i1⟩
  | 15 => ⟨S_, .f32⟩
  | 16 => ⟨S_, .f32⟩
  | 17 => ⟨S16384, .f32⟩
  | 18 => ⟨S16384, .f32⟩
  | 19 => ⟨S_, .f32⟩
  | 20 => ⟨S16384, .f32⟩
  | 21 => ⟨S16384, .i1⟩
  | 22 => ⟨S_, .f32⟩
  | 23 => ⟨S_, .f32⟩
  | 24 => ⟨S16384, .f32⟩
  | 25 => ⟨S16384, .f32⟩
  | 26 => ⟨S_, .f32⟩
  | 27 => ⟨S16384, .f32⟩
  | 28 => ⟨S16384, .i1⟩
  | 29 => ⟨S16384, .f32⟩
  | 30 => ⟨S_, .f32⟩
  | 31 => ⟨S16384, .f32⟩
  | 32 => ⟨S16384, .f32⟩
  | 33 => ⟨S16384, .f32⟩
  | 34 => ⟨S16384, .f32⟩
  | 35 => ⟨S16384, .f32⟩
  | 36 => ⟨S16384x1, .f32⟩
  | 37 => ⟨S4x4096, .f32⟩
  | 38 => ⟨S16384x4096, .f32⟩
  | 39 => ⟨S_, .f32⟩
  | 40 => ⟨S16384x4096, .f32⟩
  | 41 => ⟨S_, .f32⟩
  | 42 => ⟨S16384x4096, .f32⟩
  | 43 => ⟨S16384x4096, .i1⟩
  | 44 => ⟨S_, .f32⟩
  | 45 => ⟨S_, .f32⟩
  | 46 => ⟨S16384x4096, .f32⟩
  | 47 => ⟨S16384x4096, .f32⟩
  | 48 => ⟨S_, .f32⟩
  | 49 => ⟨S16384x4096, .f32⟩
  | 50 => ⟨S16384x4096, .i1⟩
  | 51 => ⟨S_, .f32⟩
  | 52 => ⟨S_, .f32⟩
  | 53 => ⟨S16384x4096, .f32⟩
  | 54 => ⟨S16384x4096, .f32⟩
  | 55 => ⟨S_, .f32⟩
  | 56 => ⟨S16384x4096, .f32⟩
  | 57 => ⟨S16384x4096, .i1⟩
  | 58 => ⟨S_, .f32⟩
  | 59 => ⟨S_, .f32⟩
  | 60 => ⟨S16384x4096, .f32⟩
  | 61 => ⟨S16384x4096, .f32⟩
  | 62 => ⟨S_, .f32⟩
  | 63 => ⟨S16384x4096, .f32⟩
  | 64 => ⟨S16384x4096, .i1⟩
  | 65 => ⟨S_, .f32⟩
  | 66 => ⟨S_, .f32⟩
  | 67 => ⟨S16384x4096, .f32⟩
  | 68 => ⟨S16384x4096, .f32⟩
  | 69 => ⟨S_, .f32⟩
  | 70 => ⟨S16384x4096, .f32⟩
  | 71 => ⟨S16384x4096, .i1⟩
  | 72 => ⟨S_, .f32⟩
  | 73 => ⟨S_, .f32⟩
  | 74 => ⟨S16384x4096, .f32⟩
  | 75 => ⟨S16384x4096, .f32⟩
  | 76 => ⟨S_, .f32⟩
  | 77 => ⟨S16384x4096, .f32⟩
  | 78 => ⟨S16384x4096, .i1⟩
  | 79 => ⟨S_, .f32⟩
  | 80 => ⟨S_, .f32⟩
  | 81 => ⟨S16384x4096, .f32⟩
  | 82 => ⟨S16384x4096, .f32⟩
  | 83 => ⟨S_, .f32⟩
  | 84 => ⟨S16384x4096, .f32⟩
  | 85 => ⟨S16384x4096, .i1⟩
  | 86 => ⟨S_, .f32⟩
  | 87 => ⟨S_, .f32⟩
  | 88 => ⟨S16384x4096, .f32⟩
  | 89 => ⟨S16384x4096, .f32⟩
  | 90 => ⟨S_, .f32⟩
  | 91 => ⟨S16384x4096, .f32⟩
  | 92 => ⟨S16384x4096, .i1⟩
  | 93 => ⟨S_, .f32⟩
  | 94 => ⟨S_, .f32⟩
  | 95 => ⟨S16384x4096, .f32⟩
  | 96 => ⟨S16384x4096, .f32⟩
  | 97 => ⟨S_, .f32⟩
  | 98 => ⟨S16384x4096, .f32⟩
  | 99 => ⟨S16384x4096, .i1⟩
  | 100 => ⟨S16384x4096, .f32⟩
  | 101 => ⟨S_, .f32⟩
  | 102 => ⟨S16384x4096, .f32⟩
  | 103 => ⟨S16384x4096, .f32⟩
  | 104 => ⟨S16384x4096, .f32⟩
  | 105 => ⟨S16384x4096, .f32⟩
  | 106 => ⟨S16384x4096, .f32⟩
  | 107 => ⟨S_, .f32⟩
  | 108 => ⟨S16384x4096, .f32⟩
  | 109 => ⟨S16384x4096, .f32⟩
  | 110 => ⟨S16384x4096, .f32⟩
  | 111 => ⟨S16384x4096, .f32⟩
  | 112 => ⟨S1x4096, .f32⟩
  | 113 => ⟨S16384x4096, .f32⟩
  | 114 => ⟨S16384x4096, .f32⟩
  | 115 => ⟨S16384x4096, .f32⟩
  | 116 => ⟨S16384x3, .f32⟩
  | 117 => ⟨S16384x3, .i32⟩
  | 118 => ⟨S_, .i32⟩
  | 119 => ⟨S16384x3, .i32⟩
  | 120 => ⟨S16384x3, .i1⟩
  | 121 => ⟨S_, .i32⟩
  | 122 => ⟨S16384x3, .i32⟩
  | 123 => ⟨S16384x3, .i32⟩
  | 124 => ⟨S16384x3, .i32⟩
  | 125 => ⟨S16384x3x1, .i32⟩
  | 126 => ⟨S16384x3x3, .f32⟩
  | 127 => ⟨S16384x1x3, .f32⟩
  | _ => ⟨S4096x256, .f32⟩

abbrev hbmTy0_2 (i : Nat) : BufTy := match i % 128 with
  | 0 => ⟨S16384x3x3, .f32⟩
  | 1 => ⟨S16384x3x3, .f32⟩
  | 2 => ⟨S16384x3x3, .f32⟩
  | 3 => ⟨S_, .f32⟩
  | 4 => ⟨S16384x3, .f32⟩
  | 5 => ⟨S16384x3x1, .f32⟩
  | 6 => ⟨S_, .f32⟩
  | 7 => ⟨S16384x3x1, .f32⟩
  | 8 => ⟨S16384x3x1, .f32⟩
  | 9 => ⟨S_, .f32⟩
  | 10 => ⟨S16384x3x1, .f32⟩
  | 11 => ⟨S16384x3x1, .f32⟩
  | 12 => ⟨S_, .i32⟩
  | 13 => ⟨S16384x3, .i32⟩
  | 14 => ⟨S16384x3, .i1⟩
  | 15 => ⟨S_, .i32⟩
  | 16 => ⟨S16384x3, .i32⟩
  | 17 => ⟨S16384x3, .i32⟩
  | 18 => ⟨S16384x3, .i32⟩
  | 19 => ⟨S16384x3x1, .i32⟩
  | 20 => ⟨S16384x3x256, .f32⟩
  | 21 => ⟨S16384x3x256, .f32⟩
  | 22 => ⟨S16384x3x256, .f32⟩
  | 23 => ⟨S_, .f32⟩
  | 24 => ⟨S16384x256, .f32⟩
  | 25 => ⟨S_, .f32⟩
  | 26 => ⟨S16384x1, .f32⟩
  | 27 => ⟨S16384x256, .f32⟩
  | 28 => ⟨S16384x256, .f32⟩
  | 29 => ⟨S16384x384, .f32⟩
  | 30 => ⟨S12, .f32⟩
  | 31 => ⟨S_, .f32⟩
  | 32 => ⟨S12, .f32⟩
  | 33 => ⟨S12, .f32⟩
  | 34 => ⟨S_, .f32⟩
  | 35 => ⟨S12, .f32⟩
  | 36 => ⟨S12, .f32⟩
  | 37 => ⟨S_, .f32⟩
  | 38 => ⟨S12, .f32⟩
  | 39 => ⟨S12, .f32⟩
  | 40 => ⟨S16384x384, .f32⟩
  | 41 => ⟨S16384x384, .f32⟩
  | 42 => ⟨S_, .f32⟩
  | 43 => ⟨S16384x384, .f32⟩
  | 44 => ⟨S16384x384, .f32⟩
  | 45 => ⟨S_, .f32⟩
  | 46 => ⟨S16384x384, .f32⟩
  | 47 => ⟨S16384x384, .f32⟩
  | 48 => ⟨S16384x384, .f32⟩
  | 49 => ⟨S384x256, .f32⟩
  | 50 => ⟨S16384x256, .f32⟩
  | 51 => ⟨S16384x384x1, .f32⟩
  | 52 => ⟨S11, .f32⟩
  | 53 => ⟨S1x1x11, .f32⟩
  | 54 => ⟨S16384x384x11, .f32⟩
  | 55 => ⟨S16384x384x11, .f32⟩
  | 56 => ⟨S16384x384x11, .i1⟩
  | 57 => ⟨S11, .f32⟩
  | 58 => ⟨S1x1x11, .f32⟩
  | 59 => ⟨S16384x384x11, .f32⟩
  | 60 => ⟨S16384x384x11, .f32⟩
  | 61 => ⟨S16384x384x11, .i1⟩
  | 62 => ⟨S16384x384x11, .i1⟩
  | 63 => ⟨S16384x384x11, .f32⟩
  | 64 => ⟨S10, .f32⟩
  | 65 => ⟨S1x1x10, .f32⟩
  | 66 => ⟨S16384x384x10, .f32⟩
  | 67 => ⟨S16384x384x10, .f32⟩
  | 68 => ⟨S16384x384x10, .f32⟩
  | 69 => ⟨S10, .f32⟩
  | 70 => ⟨S10, .f32⟩
  | 71 => ⟨S10, .f32⟩
  | 72 => ⟨S1x1x10, .f32⟩
  | 73 => ⟨S16384x384x10, .f32⟩
  | 74 => ⟨S16384x384x10, .f32⟩
  | 75 => ⟨S16384x384x10, .f32⟩
  | 76 => ⟨S16384x384x10, .f32⟩
  | 77 => ⟨S10, .f32⟩
  | 78 => ⟨S1x1x10, .f32⟩
  | 79 => ⟨S16384x384x10, .f32⟩
  | 80 => ⟨S16384x384x10, .f32⟩
  | 81 => ⟨S16384x384x10, .f32⟩
  | 82 => ⟨S10, .f32⟩
  | 83 => ⟨S10, .f32⟩
  | 84 => ⟨S10, .f32⟩
  | 85 => ⟨S1x1x10, .f32⟩
  | 86 => ⟨S16384x384x10, .f32⟩
  | 87 => ⟨S16384x384x10, .f32⟩
  | 88 => ⟨S16384x384x10, .f32⟩
  | 89 => ⟨S16384x384x10, .f32⟩
  | 90 => ⟨S16384x384x10, .f32⟩
  | 91 => ⟨S9, .f32⟩
  | 92 => ⟨S1x1x9, .f32⟩
  | 93 => ⟨S16384x384x9, .f32⟩
  | 94 => ⟨S16384x384x9, .f32⟩
  | 95 => ⟨S16384x384x9, .f32⟩
  | 96 => ⟨S9, .f32⟩
  | 97 => ⟨S9, .f32⟩
  | 98 => ⟨S9, .f32⟩
  | 99 => ⟨S1x1x9, .f32⟩
  | 100 => ⟨S16384x384x9, .f32⟩
  | 101 => ⟨S16384x384x9, .f32⟩
  | 102 => ⟨S16384x384x9, .f32⟩
  | 103 => ⟨S16384x384x9, .f32⟩
  | 104 => ⟨S9, .f32⟩
  | 105 => ⟨S1x1x9, .f32⟩
  | 106 => ⟨S16384x384x9, .f32⟩
  | 107 => ⟨S16384x384x9, .f32⟩
  | 108 => ⟨S16384x384x9, .f32⟩
  | 109 => ⟨S9, .f32⟩
  | 110 => ⟨S9, .f32⟩
  | 111 => ⟨S9, .f32⟩
  | 112 => ⟨S1x1x9, .f32⟩
  | 113 => ⟨S16384x384x9, .f32⟩
  | 114 => ⟨S16384x384x9, .f32⟩
  | 115 => ⟨S16384x384x9, .f32⟩
  | 116 => ⟨S16384x384x9, .f32⟩
  | 117 => ⟨S16384x384x9, .f32⟩
  | 118 => ⟨S8, .f32⟩
  | 119 => ⟨S1x1x8, .f32⟩
  | 120 => ⟨S16384x384x8, .f32⟩
  | 121 => ⟨S16384x384x8, .f32⟩
  | 122 => ⟨S16384x384x8, .f32⟩
  | 123 => ⟨S8, .f32⟩
  | 124 => ⟨S8, .f32⟩
  | 125 => ⟨S8, .f32⟩
  | 126 => ⟨S1x1x8, .f32⟩
  | 127 => ⟨S16384x384x8, .f32⟩
  | _ => ⟨S4096x256, .f32⟩

abbrev hbmTy0_3 (i : Nat) : BufTy := match i % 128 with
  | 0 => ⟨S16384x384x8, .f32⟩
  | 1 => ⟨S16384x384x8, .f32⟩
  | 2 => ⟨S16384x384x8, .f32⟩
  | 3 => ⟨S8, .f32⟩
  | 4 => ⟨S1x1x8, .f32⟩
  | 5 => ⟨S16384x384x8, .f32⟩
  | 6 => ⟨S16384x384x8, .f32⟩
  | 7 => ⟨S16384x384x8, .f32⟩
  | 8 => ⟨S8, .f32⟩
  | 9 => ⟨S8, .f32⟩
  | 10 => ⟨S8, .f32⟩
  | 11 => ⟨S1x1x8, .f32⟩
  | 12 => ⟨S16384x384x8, .f32⟩
  | 13 => ⟨S16384x384x8, .f32⟩
  | 14 => ⟨S16384x384x8, .f32⟩
  | 15 => ⟨S16384x384x8, .f32⟩
  | 16 => ⟨S16384x384x8, .f32⟩
  | 17 => ⟨S16384x256, .f32⟩
  | 18 => ⟨S16384x256, .f32⟩
  | 19 => ⟨S16384x256, .f32⟩
  | 20 => ⟨S16384x256, .f32⟩
  | 21 => ⟨S_, .f32⟩
  | 22 => ⟨S16384x256, .f32⟩
  | 23 => ⟨S16384x256, .f32⟩
  | 24 => ⟨S_, .f32⟩
  | 25 => ⟨S16384x256, .f32⟩
  | 26 => ⟨S16384x256, .f32⟩
  | 27 => ⟨S16384x256, .f32⟩
  | 28 => ⟨S256x128, .f32⟩
  | 29 => ⟨S16384x128, .f32⟩
  | 30 => ⟨S16384x256x1, .f32⟩
  | 31 => ⟨S11, .f32⟩
  | 32 => ⟨S1x1x11, .f32⟩
  | 33 => ⟨S16384x256x11, .f32⟩
  | 34 => ⟨S16384x256x11, .f32⟩
  | 35 => ⟨S16384x256x11, .i1⟩
  | 36 => ⟨S11, .f32⟩
  | 37 => ⟨S1x1x11, .f32⟩
  | 38 => ⟨S16384x256x11, .f32⟩
  | 39 => ⟨S16384x256x11, .f32⟩
  | 40 => ⟨S16384x256x11, .i1⟩
  | 41 => ⟨S16384x256x11, .i1⟩
  | 42 => ⟨S16384x256x11, .f32⟩
  | 43 => ⟨S10, .f32⟩
  | 44 => ⟨S1x1x10, .f32⟩
  | 45 => ⟨S16384x256x10, .f32⟩
  | 46 => ⟨S16384x256x10, .f32⟩
  | 47 => ⟨S16384x256x10, .f32⟩
  | 48 => ⟨S10, .f32⟩
  | 49 => ⟨S10, .f32⟩
  | 50 => ⟨S10, .f32⟩
  | 51 => ⟨S1x1x10, .f32⟩
  | 52 => ⟨S16384x256x10, .f32⟩
  | 53 => ⟨S16384x256x10, .f32⟩
  | 54 => ⟨S16384x256x10, .f32⟩
  | 55 => ⟨S16384x256x10, .f32⟩
  | 56 => ⟨S10, .f32⟩
  | 57 => ⟨S1x1x10, .f32⟩
  | 58 => ⟨S16384x256x10, .f32⟩
  | 59 => ⟨S16384x256x10, .f32⟩
  | 60 => ⟨S16384x256x10, .f32⟩
  | 61 => ⟨S10, .f32⟩
  | 62 => ⟨S10, .f32⟩
  | 63 => ⟨S10, .f32⟩
  | 64 => ⟨S1x1x10, .f32⟩
  | 65 => ⟨S16384x256x10, .f32⟩
  | 66 => ⟨S16384x256x10, .f32⟩
  | 67 => ⟨S16384x256x10, .f32⟩
  | 68 => ⟨S16384x256x10, .f32⟩
  | 69 => ⟨S16384x256x10, .f32⟩
  | 70 => ⟨S9, .f32⟩
  | 71 => ⟨S1x1x9, .f32⟩
  | 72 => ⟨S16384x256x9, .f32⟩
  | 73 => ⟨S16384x256x9, .f32⟩
  | 74 => ⟨S16384x256x9, .f32⟩
  | 75 => ⟨S9, .f32⟩
  | 76 => ⟨S9, .f32⟩
  | 77 => ⟨S9, .f32⟩
  | 78 => ⟨S1x1x9, .f32⟩
  | 79 => ⟨S16384x256x9, .f32⟩
  | 80 => ⟨S16384x256x9, .f32⟩
  | 81 => ⟨S16384x256x9, .f32⟩
  | 82 => ⟨S16384x256x9, .f32⟩
  | 83 => ⟨S9, .f32⟩
  | 84 => ⟨S1x1x9, .f32⟩
  | 85 => ⟨S16384x256x9, .f32⟩
  | 86 => ⟨S16384x256x9, .f32⟩
  | 87 => ⟨S16384x256x9, .f32⟩
  | 88 => ⟨S9, .f32⟩
  | 89 => ⟨S9, .f32⟩
  | 90 => ⟨S9, .f32⟩
  | 91 => ⟨S1x1x9, .f32⟩
  | 92 => ⟨S16384x256x9, .f32⟩
  | 93 => ⟨S16384x256x9, .f32⟩
  | 94 => ⟨S16384x256x9, .f32⟩
  | 95 => ⟨S16384x256x9, .f32⟩
  | 96 => ⟨S16384x256x9, .f32⟩
  | 97 => ⟨S8, .f32⟩
  | 98 => ⟨S1x1x8, .f32⟩
  | 99 => ⟨S16384x256x8, .f32⟩
  | 100 => ⟨S16384x256x8, .f32⟩
  | 101 => ⟨S16384x256x8, .f32⟩
  | 102 => ⟨S8, .f32⟩
  | 103 => ⟨S8, .f32⟩
  | 104 => ⟨S8, .f32⟩
  | 105 => ⟨S1x1x8, .f32⟩
  | 106 => ⟨S16384x256x8, .f32⟩
  | 107 => ⟨S16384x256x8, .f32⟩
  | 108 => ⟨S16384x256x8, .f32⟩
  | 109 => ⟨S16384x256x8, .f32⟩
  | 110 => ⟨S8, .f32⟩
  | 111 => ⟨S1x1x8, .f32⟩
  | 112 => ⟨S16384x256x8, .f32⟩
  | 113 => ⟨S16384x256x8, .f32⟩
  | 114 => ⟨S16384x256x8, .f32⟩
  | 115 => ⟨S8, .f32⟩
  | 116 => ⟨S8, .f32⟩
  | 117 => ⟨S8, .f32⟩
  | 118 => ⟨S1x1x8, .f32⟩
  | 119 => ⟨S16384x256x8, .f32⟩
  | 120 => ⟨S16384x256x8, .f32⟩
  | 121 => ⟨S16384x256x8, .f32⟩
  | 122 => ⟨S16384x256x8, .f32⟩
  | 123 => ⟨S16384x256x8, .f32⟩
  | 124 => ⟨S16384x128, .f32⟩
  | 125 => ⟨S16384x128, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_v20 : Ref sig .tc := ⟨.hbm, 43, rfl⟩
abbrev main_cst_8 : Ref sig .tc := ⟨.hbm, 44, rfl⟩
abbrev main_call2_v0 : Ref sig .tc := ⟨.hbm, 45, rfl⟩
abbrev main_call2_v1 : Ref sig .tc := ⟨.hbm, 46, rfl⟩
abbrev main_v21 : Ref sig .tc := ⟨.hbm, 47, rfl⟩
abbrev main_cst_9 : Ref sig .tc := ⟨.hbm, 48, rfl⟩
abbrev main_v22 : Ref sig .tc := ⟨.hbm, 49, rfl⟩
abbrev main_v23 : Ref sig .tc := ⟨.hbm, 50, rfl⟩
abbrev main_cst_10 : Ref sig .tc := ⟨.hbm, 51, rfl⟩
abbrev main_call3_v0 : Ref sig .tc := ⟨.hbm, 52, rfl⟩
abbrev main_call3_v1 : Ref sig .tc := ⟨.hbm, 53, rfl⟩
abbrev main_v24 : Ref sig .tc := ⟨.hbm, 54, rfl⟩
abbrev main_cst_11 : Ref sig .tc := ⟨.hbm, 55, rfl⟩
abbrev main_v25 : Ref sig .tc := ⟨.hbm, 56, rfl⟩
abbrev main_v26 : Ref sig .tc := ⟨.hbm, 57, rfl⟩
abbrev main_cst_12 : Ref sig .tc := ⟨.hbm, 58, rfl⟩
abbrev main_call4_v0 : Ref sig .tc := ⟨.hbm, 59, rfl⟩
abbrev main_call4_v1 : Ref sig .tc := ⟨.hbm, 60, rfl⟩
abbrev main_v27 : Ref sig .tc := ⟨.hbm, 61, rfl⟩
abbrev main_cst_13 : Ref sig .tc := ⟨.hbm, 62, rfl⟩
abbrev main_v28 : Ref sig .tc := ⟨.hbm, 63, rfl⟩
abbrev main_v29 : Ref sig .tc := ⟨.hbm, 64, rfl⟩
abbrev main_cst_14 : Ref sig .tc := ⟨.hbm, 65, rfl⟩
abbrev main_call5_v0 : Ref sig .tc := ⟨.hbm, 66, rfl⟩
abbrev main_call5_v1 : Ref sig .tc := ⟨.hbm, 67, rfl⟩
abbrev main_v30 : Ref sig .tc := ⟨.hbm, 68, rfl⟩
abbrev main_cst_15 : Ref sig .tc := ⟨.hbm, 69, rfl⟩
abbrev main_v31 : Ref sig .tc := ⟨.hbm, 70, rfl⟩
abbrev main_v32 : Ref sig .tc := ⟨.hbm, 71, rfl⟩
abbrev main_cst_16 : Ref sig .tc := ⟨.hbm, 72, rfl⟩
abbrev main_call6_v0 : Ref sig .tc := ⟨.hbm, 73, rfl⟩
abbrev main_call6_v1 : Ref sig .tc := ⟨.hbm, 74, rfl⟩
abbrev main_v33 : Ref sig .tc := ⟨.hbm, 75, rfl⟩
abbrev main_cst_17 : Ref sig .tc := ⟨.hbm, 76, rfl⟩
abbrev main_v34 : Ref sig .tc := ⟨.hbm, 77, rfl⟩
abbrev main_v35 : Ref sig .tc := ⟨.hbm, 78, rfl⟩
abbrev main_cst_18 : Ref sig .tc := ⟨.hbm, 79, rfl⟩
abbrev main_call7_v0 : Ref sig .tc := ⟨.hbm, 80, rfl⟩
abbrev main_call7_v1 : Ref sig .tc := ⟨.hbm, 81, rfl⟩
abbrev main_v36 : Ref sig .tc := ⟨.hbm, 82, rfl⟩
abbrev main_cst_19 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_20 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_21 : Ref sig .tc := ⟨.hbm, 94, rfl⟩
abbrev main_v46 : Ref sig .tc := ⟨.hbm, 95, rfl⟩
abbrev main_cst_22 : Ref sig .tc := ⟨.hbm, 96, rfl⟩
abbrev main_v47 : Ref sig .tc := ⟨.hbm, 97, rfl⟩
abbrev main_cst_23 : Ref sig .tc := ⟨.hbm, 98, rfl⟩
abbrev main_v48 : Ref sig .tc := ⟨.hbm, 99, rfl⟩
abbrev main_v49 : Ref sig .tc := ⟨.hbm, 100, rfl⟩
abbrev main_cst_24 : Ref sig .tc := ⟨.hbm, 101, rfl⟩
abbrev main_call9_v0 : Ref sig .tc := ⟨.hbm, 102, rfl⟩
abbrev main_call9_v1 : Ref sig .tc := ⟨.hbm, 103, rfl⟩
abbrev main_v50 : Ref sig .tc := ⟨.hbm, 104, rfl⟩
abbrev main_cst_25 : Ref sig .tc := ⟨.hbm, 105, rfl⟩
abbrev main_v51 : Ref sig .tc := ⟨.hbm, 106, rfl⟩
abbrev main_v52 : Ref sig .tc := ⟨.hbm, 107, rfl⟩
abbrev main_cst_26 : Ref sig .tc := ⟨.hbm, 108, rfl⟩
abbrev main_call10_v0 : Ref sig .tc := ⟨.hbm, 109, rfl⟩
abbrev main_call10_v1 : Ref sig .tc := ⟨.hbm, 110, rfl⟩
abbrev main_v53 : Ref sig .tc := ⟨.hbm, 111, rfl⟩
abbrev main_cst_27 : Ref sig .tc := ⟨.hbm, 112, rfl⟩
abbrev main_v54 : Ref sig .tc := ⟨.hbm, 113, rfl⟩
abbrev main_v55 : Ref sig .tc := ⟨.hbm, 114, rfl⟩
abbrev main_cst_28 : Ref sig .tc := ⟨.hbm, 115, rfl⟩
abbrev main_call11_v0 : Ref sig .tc := ⟨.hbm, 116, rfl⟩
abbrev main_call11_v1 : Ref sig .tc := ⟨.hbm, 117, rfl⟩
abbrev main_v56 : Ref sig .tc := ⟨.hbm, 118, rfl⟩
abbrev main_cst_29 : Ref sig .tc := ⟨.hbm, 119, rfl⟩
abbrev main_v57 : Ref sig .tc := ⟨.hbm, 120, rfl⟩
abbrev main_v58 : Ref sig .tc := ⟨.hbm, 121, rfl⟩
abbrev main_cst_30 : Ref sig .tc := ⟨.hbm, 122, rfl⟩
abbrev main_call12_v0 : Ref sig .tc := ⟨.hbm, 123, rfl⟩
abbrev main_call12_v1 : Ref sig .tc := ⟨.hbm, 124, rfl⟩
abbrev main_v59 : Ref sig .tc := ⟨.hbm, 125, rfl⟩
abbrev main_cst_31 : Ref sig .tc := ⟨.hbm, 126, rfl⟩
abbrev main_v60 : Ref sig .tc := ⟨.hbm, 127, rfl⟩
abbrev main_v61 : Ref sig .tc := ⟨.hbm, 128, rfl⟩
abbrev main_cst_32 : Ref sig .tc := ⟨.hbm, 129, rfl⟩
abbrev main_call13_v0 : Ref sig .tc := ⟨.hbm, 130, rfl⟩
abbrev main_call13_v1 : Ref sig .tc := ⟨.hbm, 131, rfl⟩
abbrev main_v62 : Ref sig .tc := ⟨.hbm, 132, rfl⟩
abbrev main_cst_33 : Ref sig .tc := ⟨.hbm, 133, rfl⟩
abbrev main_v63 : Ref sig .tc := ⟨.hbm, 134, rfl⟩
abbrev main_v64 : Ref sig .tc := ⟨.hbm, 135, rfl⟩
abbrev main_cst_34 : Ref sig .tc := ⟨.hbm, 136, rfl⟩
abbrev main_call14_v0 : Ref sig .tc := ⟨.hbm, 137, rfl⟩
abbrev main_call14_v1 : Ref sig .tc := ⟨.hbm, 138, rfl⟩
abbrev main_v65 : Ref sig .tc := ⟨.hbm, 139, rfl⟩
abbrev main_cst_35 : Ref sig .tc := ⟨.hbm, 140, rfl⟩
abbrev main_v66 : Ref sig .tc := ⟨.hbm, 141, rfl⟩
abbrev main_v67 : Ref sig .tc := ⟨.hbm, 142, rfl⟩
abbrev main_cst_36 : Ref sig .tc := ⟨.hbm, 143, rfl⟩
abbrev main_call15_v0 : Ref sig .tc := ⟨.hbm, 144, rfl⟩
abbrev main_call15_v1 : Ref sig .tc := ⟨.hbm, 145, rfl⟩
abbrev main_v68 : Ref sig .tc := ⟨.hbm, 146, rfl⟩
abbrev main_cst_37 : Ref sig .tc := ⟨.hbm, 147, rfl⟩
abbrev main_v69 : Ref sig .tc := ⟨.hbm, 148, rfl⟩
abbrev main_v70 : Ref sig .tc := ⟨.hbm, 149, rfl⟩
abbrev main_cst_38 : Ref sig .tc := ⟨.hbm, 150, rfl⟩
abbrev main_call16_v0 : Ref sig .tc := ⟨.hbm, 151, rfl⟩
abbrev main_call16_v1 : Ref sig .tc := ⟨.hbm, 152, rfl⟩
abbrev main_v71 : Ref sig .tc := ⟨.hbm, 153, rfl⟩
abbrev main_cst_39 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_cst_40 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_cst_41 : Ref sig .tc := ⟨.hbm, 167, rfl⟩
abbrev main_v83 : Ref sig .tc := ⟨.hbm, 168, rfl⟩
abbrev main_cst_42 : Ref sig .tc := ⟨.hbm, 169, rfl⟩
abbrev main_v84 : Ref sig .tc := ⟨.hbm, 170, rfl⟩
abbrev main_v85 : Ref sig .tc := ⟨.hbm, 171, rfl⟩
abbrev main_cst_43 : Ref sig .tc := ⟨.hbm, 172, rfl⟩
abbrev main_call18_v0 : Ref sig .tc := ⟨.hbm, 173, rfl⟩
abbrev main_call18_v1 : Ref sig .tc := ⟨.hbm, 174, rfl⟩
abbrev main_v86 : Ref sig .tc := ⟨.hbm, 175, rfl⟩
abbrev main_cst_44 : Ref sig .tc := ⟨.hbm, 176, rfl⟩
abbrev main_v87 : Ref sig .tc := ⟨.hbm, 177, rfl⟩
abbrev main_v88 : Ref sig .tc := ⟨.hbm, 178, rfl⟩
abbrev main_cst_45 : Ref sig .tc := ⟨.hbm, 179, rfl⟩
abbrev main_call19_v0 : Ref sig .tc := ⟨.hbm, 180, rfl⟩
abbrev main_call19_v1 : Ref sig .tc := ⟨.hbm, 181, rfl⟩
abbrev main_v89 : Ref sig .tc := ⟨.hbm, 182, rfl⟩
abbrev main_cst_46 : Ref sig .tc := ⟨.hbm, 183, rfl⟩
abbrev main_v90 : Ref sig .tc := ⟨.hbm, 184, rfl⟩
abbrev main_v91 : Ref sig .tc := ⟨.hbm, 185, rfl⟩
abbrev main_cst_47 : Ref sig .tc := ⟨.hbm, 186, rfl⟩
abbrev main_call20_v0 : Ref sig .tc := ⟨.hbm, 187, rfl⟩
abbrev main_call20_v1 : Ref sig .tc := ⟨.hbm, 188, rfl⟩
abbrev main_v92 : Ref sig .tc := ⟨.hbm, 189, rfl⟩
abbrev main_cst_48 : Ref sig .tc := ⟨.hbm, 190, rfl⟩
abbrev main_v93 : Ref sig .tc := ⟨.hbm, 191, rfl⟩
abbrev main_v94 : Ref sig .tc := ⟨.hbm, 192, rfl⟩
abbrev main_cst_49 : Ref sig .tc := ⟨.hbm, 193, rfl⟩
abbrev main_call21_v0 : Ref sig .tc := ⟨.hbm, 194, rfl⟩
abbrev main_call21_v1 : Ref sig .tc := ⟨.hbm, 195, rfl⟩
abbrev main_v95 : Ref sig .tc := ⟨.hbm, 196, rfl⟩
abbrev main_cst_50 : Ref sig .tc := ⟨.hbm, 197, rfl⟩
abbrev main_v96 : Ref sig .tc := ⟨.hbm, 198, rfl⟩
abbrev main_v97 : Ref sig .tc := ⟨.hbm, 199, rfl⟩
abbrev main_cst_51 : Ref sig .tc := ⟨.hbm, 200, rfl⟩
abbrev main_call22_v0 : Ref sig .tc := ⟨.hbm, 201, rfl⟩
abbrev main_call22_v1 : Ref sig .tc := ⟨.hbm, 202, rfl⟩
abbrev main_v98 : Ref sig .tc := ⟨.hbm, 203, rfl⟩
abbrev main_cst_52 : Ref sig .tc := ⟨.hbm, 204, rfl⟩
abbrev main_v99 : Ref sig .tc := ⟨.hbm, 205, rfl⟩
abbrev main_v100 : Ref sig .tc := ⟨.hbm, 206, rfl⟩
abbrev main_cst_53 : Ref sig .tc := ⟨.hbm, 207, rfl⟩
abbrev main_call23_v0 : Ref sig .tc := ⟨.hbm, 208, rfl⟩
abbrev main_call23_v1 : Ref sig .tc := ⟨.hbm, 209, rfl⟩
abbrev main_v101 : Ref sig .tc := ⟨.hbm, 210, rfl⟩
abbrev main_cst_54 : Ref sig .tc := ⟨.hbm, 211, rfl⟩
abbrev main_v102 : Ref sig .tc := ⟨.hbm, 212, rfl⟩
abbrev main_v103 : Ref sig .tc := ⟨.hbm, 213, rfl⟩
abbrev main_cst_55 : Ref sig .tc := ⟨.hbm, 214, rfl⟩
abbrev main_call24_v0 : Ref sig .tc := ⟨.hbm, 215, rfl⟩
abbrev main_call24_v1 : Ref sig .tc := ⟨.hbm, 216, rfl⟩
abbrev main_v104 : Ref sig .tc := ⟨.hbm, 217, rfl⟩
abbrev main_cst_56 : Ref sig .tc := ⟨.hbm, 218, rfl⟩
abbrev main_v105 : Ref sig .tc := ⟨.hbm, 219, rfl⟩
abbrev main_v106 : Ref sig .tc := ⟨.hbm, 220, rfl⟩
abbrev main_cst_57 : Ref sig .tc := ⟨.hbm, 221, rfl⟩
abbrev main_call25_v0 : Ref sig .tc := ⟨.hbm, 222, rfl⟩
abbrev main_call25_v1 : Ref sig .tc := ⟨.hbm, 223, rfl⟩
abbrev main_v107 : Ref sig .tc := ⟨.hbm, 224, rfl⟩
abbrev main_cst_58 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_cst_59 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_cst_60 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_values : Ref sig .tc := ⟨.hbm, 244, rfl⟩
abbrev main_indices : Ref sig .tc := ⟨.hbm, 245, rfl⟩
abbrev main_c : Ref sig .tc := ⟨.hbm, 246, rfl⟩
abbrev main_v124 : Ref sig .tc := ⟨.hbm, 247, rfl⟩
abbrev main_v125 : Ref sig .tc := ⟨.hbm, 248, rfl⟩
abbrev main_c_61 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_cst_62 : Ref sig .tc := ⟨.hbm, 259, rfl⟩
abbrev main_v135 : Ref sig .tc := ⟨.hbm, 260, rfl⟩
abbrev main_v136 : Ref sig .tc := ⟨.hbm, 261, rfl⟩
abbrev main_cst_63 : Ref sig .tc := ⟨.hbm, 262, rfl⟩
abbrev main_v137 : Ref sig .tc := ⟨.hbm, 263, rfl⟩
abbrev main_v138 : Ref sig .tc := ⟨.hbm, 264, rfl⟩
abbrev main_cst_64 : Ref sig .tc := ⟨.hbm, 265, rfl⟩
abbrev main_v139 : Ref sig .tc := ⟨.hbm, 266, rfl⟩
abbrev main_v140 : Ref sig .tc := ⟨.hbm, 267, rfl⟩
abbrev main_c_65 : Ref sig .tc := ⟨.hbm, 268, rfl⟩
abbrev main_v141 : Ref sig .tc := ⟨.hbm, 269, rfl⟩
abbrev main_v142 : Ref sig .tc := ⟨.hbm, 270, rfl⟩
abbrev main_c_66 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_cst_67 : Ref sig .tc := ⟨.hbm, 279, rfl⟩
abbrev main_v150 : Ref sig .tc := ⟨.hbm, 280, rfl⟩
abbrev main_cst_68 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_cst_69 : Ref sig .tc := ⟨.hbm, 287, rfl⟩
abbrev main_v156 : Ref sig .tc := ⟨.hbm, 288, rfl⟩
abbrev main_v157 : Ref sig .tc := ⟨.hbm, 289, rfl⟩
abbrev main_cst_70 : Ref sig .tc := ⟨.hbm, 290, rfl⟩
abbrev main_v158 : Ref sig .tc := ⟨.hbm, 291, rfl⟩
abbrev main_v159 : Ref sig .tc := ⟨.hbm, 292, rfl⟩
abbrev main_cst_71 : Ref sig .tc := ⟨.hbm, 293, rfl⟩
abbrev main_v160 : Ref sig .tc := ⟨.hbm, 294, rfl⟩
abbrev main_v161 : Ref sig .tc := ⟨.hbm, 295, rfl⟩
abbrev main_call27_v0 : Ref sig .tc := ⟨.hbm, 296, rfl⟩
abbrev main_call27_v1 : Ref sig .tc := ⟨.hbm, 297, rfl⟩
abbrev main_call27_cst : Ref sig .tc := ⟨.hbm, 298, rfl⟩
abbrev main_call27_v2 : Ref sig .tc := ⟨.hbm, 299, rfl⟩
abbrev main_call27_v3 : Ref sig .tc := ⟨.hbm, 300, rfl⟩
abbrev main_call27_cst_0 : Ref sig .tc := ⟨.hbm, 301, rfl⟩
abbrev main_call27_v4 : Ref sig .tc := ⟨.hbm, 302, rfl⟩
abbrev main_call27_v5 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_v187 : Ref sig .tc := ⟨.hbm, 329, rfl⟩
abbrev main_v188 : Ref sig .tc := ⟨.hbm, 330, rfl⟩
abbrev main_v189 : Ref sig .tc := ⟨.hbm, 331, rfl⟩
abbrev main_v190 : Ref sig .tc := ⟨.hbm, 332, rfl⟩
abbrev main_v191 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_v217 : Ref sig .tc := ⟨.hbm, 359, rfl⟩
abbrev main_v218 : Ref sig .tc := ⟨.hbm, 360, rfl⟩
abbrev main_v219 : Ref sig .tc := ⟨.hbm, 361, rfl⟩
abbrev main_v220 : Ref sig .tc := ⟨.hbm, 362, rfl⟩
abbrev main_v221 : Ref sig .tc := ⟨.hbm, 363, rfl⟩
abbrev main_v222 : Ref sig .tc := ⟨.hbm, 364, rfl⟩
abbrev main_v223 : Ref sig .tc := ⟨.hbm, 365, rfl⟩
abbrev main_v224 : Ref sig .tc := ⟨.hbm, 366, rfl⟩
abbrev main_v225 : Ref sig .tc := ⟨.hbm, 367, rfl⟩
abbrev main_v226 : Ref sig .tc := ⟨.hbm, 368, rfl⟩
abbrev main_v227 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_v238 : Ref sig .tc := ⟨.hbm, 380, rfl⟩
abbrev main_v239 : Ref sig .tc := ⟨.hbm, 381, rfl⟩
abbrev main_v240 : Ref sig .tc := ⟨.hbm, 382, rfl⟩
abbrev main_v241 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_v245 : Ref sig .tc := ⟨.hbm, 387, rfl⟩
abbrev main_v246 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_v251 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_call28_v0 : Ref sig .tc := ⟨.hbm, 403, rfl⟩
abbrev main_call28_v1 : Ref sig .tc := ⟨.hbm, 404, rfl⟩
abbrev main_call28_cst : Ref sig .tc := ⟨.hbm, 405, rfl⟩
abbrev main_call28_v2 : Ref sig .tc := ⟨.hbm, 406, rfl⟩
abbrev main_call28_v3 : Ref sig .tc := ⟨.hbm, 407, rfl⟩
abbrev main_call28_cst_0 : Ref sig .tc := ⟨.hbm, 408, rfl⟩
abbrev main_call28_v4 : Ref sig .tc := ⟨.hbm, 409, rfl⟩
abbrev main_call28_v5 : Ref sig .tc := ⟨.hbm, 410, rfl⟩
abbrev main_v261 : Ref sig .tc := ⟨.hbm, 411, rfl⟩
abbrev main_v262 : Ref sig .tc := ⟨.hbm, 412, rfl⟩
abbrev main_v263 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_v267 : Ref sig .tc := ⟨.hbm, 417, rfl⟩
abbrev main_v268 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_v272 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_v283 : Ref sig .tc := ⟨.hbm, 433, rfl⟩
abbrev main_v284 : Ref sig .tc := ⟨.hbm, 434, rfl⟩
abbrev main_v285 : Ref sig .tc := ⟨.hbm, 435, rfl⟩
abbrev main_v286 : Ref sig .tc := ⟨.hbm, 436, rfl⟩
abbrev main_v287 : Ref sig .tc := ⟨.hbm, 437, rfl⟩
abbrev main_v288 : Ref sig .tc := ⟨.hbm, 438, rfl⟩
abbrev main_v289 : Ref sig .tc := ⟨.hbm, 439, rfl⟩
abbrev main_v290 : Ref sig .tc := ⟨.hbm, 440, rfl⟩
abbrev main_v291 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_v296 : Ref sig .tc := ⟨.hbm, 446, rfl⟩
abbrev main_v297 : Ref sig .tc := ⟨.hbm, 447, rfl⟩
abbrev main_v298 : Ref sig .tc := ⟨.hbm, 448, rfl⟩
abbrev main_v299 : Ref sig .tc := ⟨.hbm, 449, rfl⟩
abbrev main_v300 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_v306 : Ref sig .tc := ⟨.hbm, 456, rfl⟩
abbrev main_v307 : Ref sig .tc := ⟨.hbm, 457, rfl⟩
abbrev main_v308 : Ref sig .tc := ⟨.hbm, 458, rfl⟩
abbrev main_v309 : Ref sig .tc := ⟨.hbm, 459, rfl⟩
abbrev main_v310 : Ref sig .tc := ⟨.hbm, 460, rfl⟩
abbrev main_v311 : Ref sig .tc := ⟨.hbm, 461, rfl⟩
abbrev main_v312 : Ref sig .tc := ⟨.hbm, 462, rfl⟩
abbrev main_v313 : Ref sig .tc := ⟨.hbm, 463, rfl⟩
abbrev main_v314 : Ref sig .tc := ⟨.hbm, 464, rfl⟩
abbrev main_v315 : Ref sig .tc := ⟨.hbm, 465, rfl⟩
abbrev main_v316 : Ref sig .tc := ⟨.hbm, 466, rfl⟩
abbrev main_v317 : Ref sig .tc := ⟨.hbm, 467, rfl⟩
abbrev main_v318 : Ref sig .tc := ⟨.hbm, 468, rfl⟩
abbrev main_v319 : Ref sig .tc := ⟨.hbm, 469, rfl⟩
abbrev main_v320 : Ref sig .tc := ⟨.hbm, 470, rfl⟩
abbrev main_v321 : Ref sig .tc := ⟨.hbm, 471, rfl⟩
abbrev main_v322 : Ref sig .tc := ⟨.hbm, 472, rfl⟩
abbrev main_v323 : Ref sig .tc := ⟨.hbm, 473, rfl⟩
abbrev main_v324 : Ref sig .tc := ⟨.hbm, 474, rfl⟩
abbrev main_v325 : Ref sig .tc := ⟨.hbm, 475, rfl⟩
abbrev main_v326 : Ref sig .tc := ⟨.hbm, 476, rfl⟩
abbrev main_v327 : Ref sig .tc := ⟨.hbm, 477, rfl⟩
abbrev main_v328 : Ref sig .tc := ⟨.hbm, 478, rfl⟩
abbrev main_v329 : Ref sig .tc := ⟨.hbm, 479, rfl⟩
abbrev main_v330 : Ref sig .tc := ⟨.hbm, 480, rfl⟩
abbrev main_v331 : Ref sig .tc := ⟨.hbm, 481, rfl⟩
abbrev main_v332 : Ref sig .tc := ⟨.hbm, 482, rfl⟩
abbrev main_v333 : Ref sig .tc := ⟨.hbm, 483, rfl⟩
abbrev main_v334 : Ref sig .tc := ⟨.hbm, 484, rfl⟩
abbrev main_v335 : Ref sig .tc := ⟨.hbm, 485, rfl⟩
abbrev main_v336 : Ref sig .tc := ⟨.hbm, 486, rfl⟩
abbrev main_v337 : Ref sig .tc := ⟨.hbm, 487, rfl⟩
abbrev main_v338 : Ref sig .tc := ⟨.hbm, 488, rfl⟩
abbrev main_v339 : Ref sig .tc := ⟨.hbm, 489, rfl⟩
abbrev main_v340 : Ref sig .tc := ⟨.hbm, 490, rfl⟩
abbrev main_v341 : Ref sig .tc := ⟨.hbm, 491, rfl⟩
abbrev main_v342 : Ref sig .tc := ⟨.hbm, 492, rfl⟩
abbrev main_v343 : Ref sig .tc := ⟨.hbm, 493, rfl⟩
abbrev main_v344 : Ref sig .tc := ⟨.hbm, 494, rfl⟩
abbrev main_v345 : Ref sig .tc := ⟨.hbm, 495, rfl⟩
abbrev main_v346 : Ref sig .tc := ⟨.hbm, 496, rfl⟩
abbrev main_v347 : Ref sig .tc := ⟨.hbm, 497, rfl⟩
abbrev main_v348 : Ref sig .tc := ⟨.hbm, 498, rfl⟩
abbrev main_v349 : Ref sig .tc := ⟨.hbm, 499, rfl⟩
abbrev main_v350 : Ref sig .tc := ⟨.hbm, 500, rfl⟩
abbrev main_v351 : Ref sig .tc := ⟨.hbm, 501, rfl⟩
abbrev main_v352 : Ref sig .tc := ⟨.hbm, 502, rfl⟩
abbrev main_v353 : Ref sig .tc := ⟨.hbm, 503, rfl⟩
abbrev main_v354 : Ref sig .tc := ⟨.hbm, 504, rfl⟩
abbrev main_v355 : Ref sig .tc := ⟨.hbm, 505, rfl⟩
abbrev main_v356 : Ref sig .tc := ⟨.hbm, 506, rfl⟩
abbrev main_v357 : Ref sig .tc := ⟨.hbm, 507, rfl⟩
abbrev main_v358 : Ref sig .tc := ⟨.hbm, 508, rfl⟩
abbrev main_v359 : Ref sig .tc := ⟨.hbm, 509, rfl⟩

abbrev nD : Nat := 1
abbrev τ : Topo := Topo.v7x

variable {F : FTy → Type} [FloatOps F]
-- ==== Proof.IdealBody.lean ====
/-
  The kernel's body run once, at any grid point: what it leaves in the output block as a function of the grid point
  and of the eight input blocks, the pipeline's proof data over it, and the launch.
  The two branches of the body's conditional are two functions of the blocks (`near0`: a true three-nearest search;
  `nearRest`: the first three points), and everything after it is a third (`layers`).
-/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Claim
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's values -/

/-! The rectangles that the body reads and writes: whole blocks, and the first three rows of the point features. -/

abbrev rPs : Rect S1024x3 := Rect.unit (s := S1024x3) ![0, 0] S1024x3.size inb_S1024x3_S1024x3_0_0
abbrev rPt : Rect S3x512 := Rect.unit (s := S3x512) ![0, 0] S3x512.size inb_S3x512_S3x512_0_0
abbrev rX : Rect S512x256 := Rect.unit (s := S512x256) ![0, 0] S512x256.size inb_S512x256_S512x256_0_0
abbrev rX0 : Rect S512x256 := Rect.unit (s := S512x256) ![0, 0] S1x256.size inb_S512x256_S1x256_0_0
abbrev rX1 : Rect S512x256 := Rect.unit (s := S512x256) ![1, 0] S1x256.size inb_S512x256_S1x256_1_0
abbrev rX2 : Rect S512x256 := Rect.unit (s := S512x256) ![2, 0] S1x256.size inb_S512x256_S1x256_2_0
abbrev rXs : Rect S1024x128 := Rect.unit (s := S1024x128) ![0, 0] S1024x128.size inb_S1024x128_S1024x128_0_0
abbrev rB1 : Rect S384x256 := Rect.unit (s := S384x256) ![0, 0] S384x256.size inb_S384x256_S384x256_0_0
abbrev rW1 : Rect S3072x256 := Rect.unit (s := S3072x256) ![0, 0] S3072x256.size inb_S3072x256_S3072x256_0_0
abbrev rB2 : Rect S256x128 := Rect.unit (s := S256x128) ![0, 0] S256x128.size inb_S256x128_S256x128_0_0
abbrev rW2 : Rect S2048x128 := Rect.unit (s := S2048x128) ![0, 0] S2048x128.size inb_S2048x128_S2048x128_0_0

/-- The interpolated features of a tile by the true nearest-neighbour search among the block's 512 points. -/
def near0 (v0 : Vec F S1024x3 .f32) (v1 : Vec F S3x512 .f32) (v448 : Vec F S512x256 .f32) : FVec F S1024x256 .f32 :=
  let v2 := k0_pay20 v1
  let v369 : IVec S1024x512 32 := iota .tc S1024x512 32 [1] iota_S1024x512_d1_w32
  let v348 := k0_pay7 v0 v2
  let v368 := k0_pay8 v0 v2
  let v381 := k0_pay11 v0 v2
  let v384 := k0_pay12 v0 v2
  k0_pay21 v368 v369 (k0_pay17 v348 v368 v369 k0_pay9 v381 v384) (k0_pay18 v348 v368 v369 k0_pay10 v381 v384)
    (k0_pay19 v348 v369 v381) v448

/-- The interpolated features of a tile from the first three points of its block. -/
def nearRest (v0 : Vec F S1024x3 .f32) (v1 : Vec F S3x512 .f32) (a b d : Vec F S1x256 .f32) : FVec F S1024x256 .f32 :=
  k0_pay22 v0 v1 a b d

/-- The condition the body branches on: the grid coordinate is below two. -/
def first (i : grid0.Coords) : BitVec 1 :=
  Scalar.cmpi .ne (Scalar.extui (Scalar.cmpi .slt (BitVec.ofNat 32 (i 0).val) 2#32)) 0#32

/-- The interpolated features at grid point `i`. -/
def near (i : grid0.Coords) (x0 : Vec F S3x512 .f32) (x1 : Vec F S512x256 .f32) (x2 : Vec F S1024x3 .f32) : FVec F S1024x256 .f32 :=
  if first i = 1#1 then near0 (View.ld x2 rPs) (View.ld x0 rPt) (View.ld x1 rX)
  else nearRest (View.ld x2 rPs) (View.ld x0 rPt) (View.ld x1 rX0) (View.ld x1 rX1) (View.ld x1 rX2)

/-- The first layer: its output from the interpolated and the skip features, its base weights and its spline weights. -/
def layer1 (v6 : FVec F S1024x256 .f32) (v7 : Vec F S1024x128 .f32) (v12 : Vec F S384x256 .bf16)
    (v168 : Vec F S3072x256 .bf16) : FVec F S1024x256 .f32 :=
  let v8 := k0_pay23 v6 v7
  let v14 := k0_pay24 v6 v7 v12
  let v16 := k0_pay25 (F := F)
  let v18 := k0_pay26 (F := F)
  let v20 := k0_pay27 (F := F)
  let v22 := k0_pay28 (F := F)
  let v24 := k0_pay29 (F := F)
  let v26 := k0_pay30 (F := F)
  let v27 := k0_pay31 (F := F)
  let v38 := k0_pay32 (F := F)
  let v41 := k0_pay33 v8 v16
  let v44 := k0_pay34 v8 v18
  let v47 := k0_pay35 v8 v20
  let v50 := k0_pay36 v8 v22
  let v53 := k0_pay37 v8 v24
  let v56 := k0_pay38 v8 v26
  let v59 := k0_pay39 v8 v27
  let v62 := k0_pay40 v8
  let v65 := k0_pay41 v8
  let v68 := k0_pay42 v8
  let v71 := k0_pay43 v8
  let v74 := k0_pay44 v8 v38
  let v87 := k0_pay47 v47 v53
  let v91 := k0_pay48 v50 v56
  let v95 := k0_pay49 v53 v59
  let v99 := k0_pay50 v56 v62
  let v103 := k0_pay51 v59 v65
  let v107 := k0_pay52 v62 v68
  let v111 := k0_pay53 v65 v71
  let v115 := k0_pay54 v8 v38 v68
  let v118 := k0_pay55 v41 v44 v47 v50
  let v119 := k0_pay56 v44 v50
  let v120 := k0_pay57 v47 v53
  k0_pay58 v14 v41 v44 v47 v50 v53 v56 v59 v62 v65 v68 v71 v74 v87 v91 v95 v99 v103 v107 v111 v115 v118 v119 v120 v168

/-- The second layer: its output from the first layer's, its activated input, its base weights and its spline weights. -/
def layer2 (v171 : FVec F S1024x256 .f32) (v174 : FVec F S1024x256 .bf16) (v175 : Vec F S256x128 .bf16)
    (v331 : Vec F S2048x128 .bf16) : FVec F S1024x128 .f32 :=
  let cst_93 : F .f32 := Scalar.ofBits .f32 0x41000000#32
  let cst_94 : F .f32 := Scalar.ofBits .f32 0x3ECCCCCD#32
  let v177 := k0_pay60 v174 v175
  let v179 := k0_pay61 (F := F)
  let v181 := k0_pay62 (F := F)
  let v183 := k0_pay63 (F := F)
  let v185 := k0_pay64 (F := F)
  let v187 := k0_pay65 (F := F)
  let v189 := k0_pay66 (F := F)
  let v191 := k0_pay67 (F := F)
  let v193 := k0_pay68 (F := F)
  let v195 := k0_pay69 (F := F)
  let v197 := k0_pay70 (F := F)
  let v199 := k0_pay71 (F := F)
  let v204 := k0_pay72 v171 v179
  let v207 := k0_pay73 v171 v181
  let v210 := k0_pay74 v171 v183
  let v213 := k0_pay75 v171 v185
  let v216 := k0_pay76 v171 v187
  let v219 := k0_pay77 v171 v189
  let v222 := k0_pay78 v171 v191
  let v225 := k0_pay79 v171 v193
  let v228 := k0_pay80 v171 v195
  let v231 := k0_pay81 v171 v197
  let v234 := k0_pay82 v171 v199
  let v237 := k0_pay83 v171 cst_93 cst_94
  let v238 := k0_pay84 (F := F)
  let v242 := k0_pay85 v171 v179 v183
  let v246 := k0_pay86 v171 v181 v185
  let v250 := k0_pay87 v171 v183 v187
  let v253 := k0_pay88 v171 v185 v189
  let v284 := k0_pay95 v207 v216 v246 v250
  let v287 := k0_pay96 v210 v219 v238 v250 v253
  let v290 := k0_pay97 v213 v216 v222 v238 v253
  let v293 := k0_pay98 v216 v219 v222 v225 v238
  let v296 := k0_pay99 v219 v222 v225 v228 v238
  let v299 := k0_pay100 v222 v225 v228 v231 v238
  let v302 := k0_pay101 v225 v228 v231 v234 v238
  let v305 := k0_pay102 v228 v231 v234 v237 v238
  let v306 := k0_pay103 v204 v213 v242 v246
  let v307 := k0_pay104 v207 v216 v246 v250
  let v311 := k0_pay1 v207 v219 v284 v287
  let v314 := k0_pay2 v210 v222 v287 v290
  let v317 := k0_pay3 v213 v225 v290 v293
  let v320 := k0_pay4 v216 v228 v293 v296
  let v323 := k0_pay5 v219 v231 v296 v299
  k0_pay6 v177 v222 v225 v234 v237 v299 v302 v305 v306 v307 v311 v314 v317 v320 v323 v331

/-- The first layer's output activated, as the body binds it. -/
def act1 (v6 : FVec F S1024x256 .f32) (v7 : Vec F S1024x128 .f32) (v12 : Vec F S384x256 .bf16)
    (v168 : Vec F S3072x256 .bf16) : FVec F S1024x256 .bf16 :=
  let v8 := k0_pay23 v6 v7
  let v14 := k0_pay24 v6 v7 v12
  let v16 := k0_pay25 (F := F)
  let v18 := k0_pay26 (F := F)
  let v20 := k0_pay27 (F := F)
  let v22 := k0_pay28 (F := F)
  let v24 := k0_pay29 (F := F)
  let v26 := k0_pay30 (F := F)
  let v27 := k0_pay31 (F := F)
  let v38 := k0_pay32 (F := F)
  let v41 := k0_pay33 v8 v16
  let v44 := k0_pay34 v8 v18
  let v47 := k0_pay35 v8 v20
  let v50 := k0_pay36 v8 v22
  let v53 := k0_pay37 v8 v24
  let v56 := k0_pay38 v8 v26
  let v59 := k0_pay39 v8 v27
  let v62 := k0_pay40 v8
  let v65 := k0_pay41 v8
  let v68 := k0_pay42 v8
  let v71 := k0_pay43 v8
  let v74 := k0_pay44 v8 v38
  let v87 := k0_pay47 v47 v53
  let v91 := k0_pay48 v50 v56
  let v95 := k0_pay49 v53 v59
  let v99 := k0_pay50 v56 v62
  let v103 := k0_pay51 v59 v65
  let v107 := k0_pay52 v62 v68
  let v111 := k0_pay53 v65 v71
  let v115 := k0_pay54 v8 v38 v68
  let v118 := k0_pay55 v41 v44 v47 v50
  let v119 := k0_pay56 v44 v50
  let v120 := k0_pay57 v47 v53
  k0_pay59 v14 v41 v44 v47 v50 v53 v56 v59 v62 v65 v68 v71 v74 v87 v91 v95 v99 v103 v107 v111 v115 v118 v119 v120 v168

/-- Everything after the conditional. -/
def layers (v6 : FVec F S1024x256 .f32) (v7 : Vec F S1024x128 .f32) (v12 : Vec F S384x256 .bf16)
    (v168 : Vec F S3072x256 .bf16) (v175 : Vec F S256x128 .bf16) (v331 : Vec F S2048x128 .bf16) : FVec F S1024x128 .f32 :=
  layer2 (layer1 v6 v7 v12 v168) (act1 v6 v7 v12 v168) v175 v331

/-- The output block after the body at grid point `i`, from the input blocks. -/
def outBlk (i : grid0.Coords) (x0 : Vec F S3x512 .f32) (x1 : Vec F S512x256 .f32) (x2 : Vec F S1024x3 .f32) (x3 : Vec F S1024x128 .f32) (x4 : Vec F S384x256 .bf16) (x5 : Vec F S3072x256 .bf16) (x6 : Vec F S256x128 .bf16) (x7 : Vec F S2048x128 .bf16) : Vec F S1024x128 .f32 :=
  View.canon [⟨rXs, layers (near i x0 x1 x2) (View.ld x3 rXs) (View.ld x4 rB1) (View.ld x5 rW1) (View.ld x6 rB2) (View.ld x7 rW2)⟩]

/-- The one store covers the output block. -/
theorem covers (p0 : Vec F S1024x128 .f32) (y : S1024x128.Idx) :
    ∃ pc ∈ ([⟨rXs, p0⟩] : List (View.Piece (Elt F) S1024x128 .f32)), y ∈ pc.1.set :=
  View.cover_of_tiled [⟨rXs, p0⟩] S1024x128.size (by rfl) y

/-! ## The body's triple -/

set_option maxHeartbeats 41457250 in
/-- One run of the body on nine whole buffers, the eight inputs' holding `x0` to `x7` and the output's anything: the inputs'
    are left as they were and the output's holds `outBlk`, whichever branch is taken. -/
theorem sound_kernel (c : Dev nD) (E : Set ℕ) (i : grid0.Coords) (arg1 : Memref sig .tc .vmem S3x512 .f32) (harg1 : arg1.IsWhole) (arg2 : Memref sig .tc .vmem S512x256 .f32) (harg2 : arg2.IsWhole) (arg3 : Memref sig .tc .vmem S1024x3 .f32) (harg3 : arg3.IsWhole) (arg4 : Memref sig .tc .vmem S1024x128 .f32) (harg4 : arg4.IsWhole) (arg5 : Memref sig .tc .vmem S384x256 .bf16) (harg5 : arg5.IsWhole) (arg6 : Memref sig .tc .vmem S3072x256 .bf16) (harg6 : arg6.IsWhole) (arg7 : Memref sig .tc .vmem S256x128 .bf16) (harg7 : arg7.IsWhole) (arg8 : Memref sig .tc .vmem S2048x128 .bf16) (harg8 : arg8.IsWhole) (arg9 : Memref sig .tc .vmem S1024x128 .f32) (harg9 : arg9.IsWhole)
    (x0 : Vec F S3x512 .f32) (x1 : Vec F S512x256 .f32) (x2 : Vec F S1024x3 .f32) (x3 : Vec F S1024x128 .f32) (x4 : Vec F S384x256 .bf16) (x5 : Vec F S3072x256 .bf16) (x6 : Vec F S256x128 .bf16) (x7 : Vec F S2048x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlk i x0 x1 x2 x3 x4 x5 x6 x7)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  rcases Classical.em (first i = 1#1) with hc | hc
  all_goals
    unfold first at hc
    sl_exec
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    iexists _; isplitr
    swap; · iexact H8
    ipureintro
    refine (View.read_writes_eq_canon _ _ _ (covers _)).trans ?_
    unfold outBlk near first
    first | rw [if_pos hc] | rw [if_neg hc]
    rfl

/-! ## The pipeline's buffers -/

variable (m : (ℓ : Loc nD τ sig) → Buf (Elt F) ℓ) (ρ : Dev nD → PrngReg)

/-- What is claimed of the pipeline's buffers on core `c`: after grid point `t` an input's buffer still holds its block and
    the output's holds `outBlk` of the eight blocks. The rest of the core's memory is not touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (grid0.coords t) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The pipeline's arrays are those that the host code before it leaves. -/
theorem A_eq (c : Dev nD) (w : Fin cfg0.W) : (dats m 0 c).A w = V m c (Pipeline.arrRef spec0 w) := by
  dsimp only [dats]

/-! What the body leaves in each of the nine buffers at a grid point: an input's block, or the output's `outBlk`. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBlk (grid0.coords t) (iblk m c 0 t) (iblk m c 1 t) (iblk m c 2 t) (iblk m c 3 t) (iblk m c 4 t) (iblk m c 5 t) (iblk m c 6 t) (iblk m c 7 t) := by dsimp only [dats]

/-! What the body finds in each of the eight input buffers at a grid point: the block, fetched at this point or at an
earlier one. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the core holds when the body is called at point `t`: its untouched memory and the nine buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the core holds when the body at point `t` returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any grid point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The function that the pipeline calls at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- `sound_body` at every point, as the pipeline's theorem asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program runs to the end from any memory with zero counters. Each of the pipeline's arrays then holds what its blocks
    say, every other array is as the pipeline found it, and every counter is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Frames.lean ====
/-
  The frame claims: the kernel at the machine's words, the kernel read exactly and the reference read exactly each run to the
  end, leave their ten argument arrays as they were and leave every counter at zero.
-/
module

public import proofs.«01_k».proof.Defs
public import proofs.«01_k».proof.Proof.BitsBody
public import proofs.«01_k».proof.Proof.IdealBody
public import proofs.«01_k».proof.Proof.Gen.ReferenceIdeal.Run
public import proofs.«01_k».proof.Proof.Gen.Pre_drawn
public import Idealize.ShloMosaic.Lib.Claim

@[expose] public section

noncomputable section

namespace Cert.Proof

open Idealize.ShloMosaic Idealize.SL.Sem

/-- The reference runs from any memory, keeps its arguments, and has no counter that could end off zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run Cert.ReferenceIdeal.defs _ _).mono
    (fun r h => ⟨fun c => (h c).2.2.2, sem_eq_zero_of_no_sems (by decide) r.2⟩) (Cert.ReferenceIdeal.Value.run (F := Ideal) m g)

/-- The kernel at the machine's words. -/
theorem frame_kernel : Cert.quiescent_Kernel := fun m g _ => Cert.Kernel.Run.frame m g

/-- The kernel read exactly. -/
theorem frame_ideal : Cert.quiescent_KernelIdeal := fun m g _ => Cert.KernelIdeal.Run.frame m g

/-- The kernel read exactly, at inputs as `setup_inputs` draws them. -/
theorem frame_ideal_drawn : Cert.quiescent_KernelIdeal_pre_drawn := fun m g _ => Cert.KernelIdeal.Run.frame m g

/-- The reference read exactly. -/
theorem frame_reference : Cert.quiescent_ReferenceIdeal := fun m g _ => reference_frame m g

/-- The reference read exactly, at inputs as `setup_inputs` draws them. -/
theorem frame_reference_drawn : Cert.quiescent_ReferenceIdeal_pre_drawn := fun m g _ => reference_frame m g

end Cert.Proof

end
-- ==== Proof.Spline.lean ====
/-
  The cubic B-spline basis, two ways. The knots are `(k - 3) s - 1` with `s` the float32 nearest to two fifths. The kernel
  starts from a hat function without divisions and runs two recurrences without divisions, so its third function is
  `6 s³` times the basis function; the reference runs the textbook recurrence from the interval's indicator. The two agree
  once the kernel's is multiplied by `1 / (6 s³)`, at every extended real.
-/
module

public import Idealize.ShloMosaic.PureOps.Ideal
public import Mathlib.Tactic.Linarith
public import Mathlib.Tactic.FieldSimp
public import Mathlib.Tactic.NormNum
public import Mathlib.Tactic.Ring

@[expose] public section

noncomputable section

namespace Cert.Spline

open Idealize.ShloMosaic

/-- The knots' distance: the float32 nearest to two fifths. -/
def step : ℝ := 13421773 / 33554432

/-- The step is positive. -/
theorem step_pos : 0 < step := by unfold step; norm_num

/-- The knot of number `k`. -/
def knot (k : ℕ) : ℝ := ((k : ℝ) - 3) * step - 1

/-- `n` knots on. -/
theorem knot_add (k n : ℕ) : knot (k + n) = knot k + n * step := by unfold knot; push_cast; ring

/-! ## Over the reals -/

/-- The kernel's hat function. -/
def hatR (x : ℝ) (k : ℕ) : ℝ := max 0 (min (x - knot k) (0 - (x - knot (k + 2))))
/-- The kernel's first recurrence. -/
def quadR (x : ℝ) (k : ℕ) : ℝ := (x - knot k) * hatR x k - (x - knot (k + 3)) * hatR x (k + 1)
/-- The kernel's second recurrence. -/
def cubicR (x : ℝ) (k : ℕ) : ℝ := (x - knot k) * quadR x k - (x - knot (k + 4)) * quadR x (k + 1)

/-- The indicator of the interval from knot `k` to the next. -/
def b0R (x : ℝ) (k : ℕ) : ℝ := if knot k ≤ x ∧ x < knot (k + 1) then 1 else 0
/-- One step of the textbook recurrence, to degree `p`. -/
def nextR (p : ℕ) (b : ℕ → ℝ) (x : ℝ) (k : ℕ) : ℝ :=
  (x - knot k) / (knot (k + p) - knot k) * b k + (knot (k + (p + 1)) - x) / (knot (k + (p + 1)) - knot (k + 1)) * b (k + 1)

/-- The hat function is the step times the reference's first degree. -/
theorem hatR_eq (x : ℝ) (k : ℕ) : hatR x k = step * nextR 1 (b0R x) x k := by
  have hs := step_pos
  have h1 : knot (k + 1) = knot k + 1 * step := by rw [knot_add]; norm_num
  have h3 : knot (k + 1 + 1) = knot k + 2 * step := by rw [show k + 1 + 1 = k + 2 from rfl, knot_add]; norm_num
  have hs0 : step ≠ 0 := hs.ne'
  unfold hatR nextR b0R
  rw [h3, h1]
  generalize knot k = g
  have e1 : g + 1 * step - g = step := by ring
  have e2 : g + 2 * step - (g + 1 * step) = step := by ring
  rw [e1, e2]
  by_cases c1 : g ≤ x
  · by_cases c2 : x < g + 1 * step
    · rw [if_pos ⟨c1, c2⟩, if_neg (by rintro ⟨h, -⟩; linarith)]
      rw [min_eq_left (by linarith), max_eq_right (by linarith)]
      field_simp; ring
    · rw [if_neg (by rintro ⟨-, h⟩; exact c2 h)]
      by_cases c3 : x < g + 2 * step
      · rw [if_pos ⟨by linarith, c3⟩, min_eq_right (by linarith), max_eq_right (by linarith)]
        field_simp; ring
      · rw [if_neg (by rintro ⟨-, h⟩; exact c3 h), min_eq_right (by linarith), max_eq_left (by linarith)]
        ring
  · rw [if_neg (by rintro ⟨h, -⟩; exact c1 h), if_neg (by rintro ⟨h, -⟩; linarith)]
    rw [min_eq_left (by linarith), max_eq_left (by linarith)]
    ring

/-- The first recurrence is two squared steps times the reference's second degree. -/
theorem quadR_eq (x : ℝ) (k : ℕ) : quadR x k = 2 * step ^ 2 * nextR 2 (nextR 1 (b0R x) x) x k := by
  have hs0 : step ≠ 0 := step_pos.ne'
  unfold quadR
  rw [hatR_eq, hatR_eq, nextR.eq_def 2]
  generalize nextR 1 (b0R x) x = b
  rw [show k + (2 + 1) = k + 3 from rfl, knot_add k 3, knot_add k 2, knot_add k 1]
  generalize knot k = g
  push_cast
  have e1 : g + 2 * step - g = 2 * step := by ring
  have e2 : g + 3 * step - (g + 1 * step) = 2 * step := by ring
  rw [e1, e2]
  field_simp; ring

/-- The second recurrence is six cubed steps times the reference's third degree. -/
theorem cubicR_eq (x : ℝ) (k : ℕ) :
    cubicR x k = 6 * step ^ 3 * nextR 3 (nextR 2 (nextR 1 (b0R x) x) x) x k := by
  have hs0 : step ≠ 0 := step_pos.ne'
  unfold cubicR
  rw [quadR_eq, quadR_eq, nextR.eq_def 3]
  generalize nextR 2 (nextR 1 (b0R x) x) x = b
  rw [show k + (3 + 1) = k + 4 from rfl, knot_add k 4, knot_add k 3, knot_add k 1]
  generalize knot k = g
  push_cast
  have e1 : g + 3 * step - g = 3 * step := by ring
  have e2 : g + 4 * step - (g + 1 * step) = 3 * step := by ring
  rw [e1, e2]
  field_simp; ring

/-! ## Over the extended reals, as the programs compute them -/

/-- The kernel's hat function. -/
def hat (x : EReal) (k : ℕ) : EReal := max 0 (min (x - (knot k : EReal)) (0 - (x - (knot (k + 2) : EReal))))
/-- The kernel's first recurrence. -/
def quad (x : EReal) (k : ℕ) : EReal := (x - (knot k : EReal)) * hat x k - (x - (knot (k + 3) : EReal)) * hat x (k + 1)
/-- The kernel's second recurrence. -/
def cubic (x : EReal) (k : ℕ) : EReal := (x - (knot k : EReal)) * quad x k - (x - (knot (k + 4) : EReal)) * quad x (k + 1)

open Classical in
/-- The reference's indicator. -/
def b0 (x : EReal) (k : ℕ) : EReal := if (knot k : EReal) ≤ x ∧ x < (knot (k + 1) : EReal) then 1 else 0
/-- One step of the reference's recurrence, to degree `p`. -/
def next (p : ℕ) (b : ℕ → EReal) (x : EReal) (k : ℕ) : EReal :=
  Ideal.div (x - (knot k : EReal)) ((knot (k + p) : EReal) - (knot k : EReal)) * b k
    + Ideal.div ((knot (k + (p + 1)) : EReal) - x) ((knot (k + (p + 1)) : EReal) - (knot (k + 1) : EReal)) * b (k + 1)
/-- The reference's cubic basis function of number `k`. -/
def basis (x : EReal) (k : ℕ) : EReal := next 3 (next 2 (next 1 (b0 x) x) x) x k

/-- The factor on the spline weights: one over six times the cube of the knots' distance. -/
def scale : EReal := ((1 / (6 * step * step * step) : ℝ) : EReal)

/-- A maximum of reals among the extended reals. -/
theorem coe_max (a b : ℝ) : ((max a b : ℝ) : EReal) = max (a : EReal) (b : EReal) :=
  EReal.coe_strictMono.monotone.map_max
/-- A minimum of reals among the extended reals. -/
theorem coe_min (a b : ℝ) : ((min a b : ℝ) : EReal) = min (a : EReal) (b : EReal) :=
  EReal.coe_strictMono.monotone.map_min

/-- The hat function at a real. -/
theorem hat_coe (x : ℝ) (k : ℕ) : hat x k = (hatR x k : ℝ) := by
  unfold hat hatR; rw [coe_max, coe_min]; push_cast; rfl
/-- The first recurrence at a real. -/
theorem quad_coe (x : ℝ) (k : ℕ) : quad x k = (quadR x k : ℝ) := by
  unfold quad quadR; rw [hat_coe, hat_coe]; push_cast; rfl
/-- The second recurrence at a real. -/
theorem cubic_coe (x : ℝ) (k : ℕ) : cubic x k = (cubicR x k : ℝ) := by
  unfold cubic cubicR; rw [quad_coe, quad_coe]; push_cast; rfl

/-- The indicator at a real. -/
theorem b0_coe (x : ℝ) (k : ℕ) : b0 x k = (b0R x k : ℝ) := by
  unfold b0 b0R
  by_cases h : knot k ≤ x ∧ x < knot (k + 1)
  · rw [if_pos h, if_pos ⟨EReal.coe_le_coe_iff.mpr h.1, EReal.coe_lt_coe_iff.mpr h.2⟩]; rfl
  · rw [if_neg h, if_neg (fun h' => h ⟨EReal.coe_le_coe_iff.mp h'.1, EReal.coe_lt_coe_iff.mp h'.2⟩)]; rfl

/-- A quotient by a nonzero real. -/
theorem div_real (x : EReal) (y : ℝ) (hy : y ≠ 0) : Ideal.div x (y : EReal) = x * ((y⁻¹ : ℝ) : EReal) := by
  unfold Ideal.div
  rw [if_neg (by intro h; exact hy (by exact_mod_cast h))]
  rfl

/-- Two different knots differ. -/
theorem gap_ne (k n : ℕ) (hn : 0 < n) : knot (k + n) - knot k ≠ 0 := by
  rw [knot_add]
  have : 0 < (n : ℝ) * step := mul_pos (by exact_mod_cast hn) step_pos
  intro h; linarith

/-- One step of the reference's recurrence at a real, from real functions. -/
theorem next_coe (p : ℕ) (hp : 0 < p) (b : ℕ → EReal) (bR : ℕ → ℝ) (hb : ∀ k, b k = (bR k : ℝ)) (x : ℝ) (k : ℕ) :
    next p b x k = (nextR p bR x k : ℝ) := by
  have h1 : knot (k + p) - knot k ≠ 0 := gap_ne k p hp
  have h2 : knot (k + (p + 1)) - knot (k + 1) ≠ 0 := by
    rw [show k + (p + 1) = k + 1 + p by omega]; exact gap_ne (k + 1) p hp
  unfold next nextR
  rw [hb, hb, ← EReal.coe_sub, ← EReal.coe_sub, ← EReal.coe_sub, ← EReal.coe_sub, div_real _ _ h1, div_real _ _ h2]
  rw [div_eq_mul_inv, div_eq_mul_inv]
  norm_cast

/-- The reference's basis function at a real. -/
theorem basis_coe (x : ℝ) (k : ℕ) : basis x k = (nextR 3 (nextR 2 (nextR 1 (b0R x) x) x) x k : ℝ) :=
  next_coe 3 (by norm_num) _ _ (next_coe 2 (by norm_num) _ _ (next_coe 1 (by norm_num) _ _ (b0_coe x) x) x) x k

/-- Off the reals the kernel's function is zero. -/
theorem cubic_zero (x : EReal) (h : ∀ k, hat x k = 0) (k : ℕ) : cubic x k = 0 := by
  have q : ∀ k, quad x k = 0 := fun k => by unfold quad; rw [h, h, mul_zero, mul_zero, sub_zero]
  unfold cubic; rw [q, q, mul_zero, mul_zero, sub_zero]

/-- Off the reals the reference's function is zero. -/
theorem basis_zero (x : EReal) (h : ∀ k, b0 x k = 0) (k : ℕ) : basis x k = 0 := by
  have s : ∀ (p : ℕ) (b : ℕ → EReal), (∀ k, b k = 0) → ∀ k, next p b x k = 0 := fun p b hb k => by
    unfold next; rw [hb, hb, mul_zero, mul_zero, add_zero]
  exact s 3 _ (s 2 _ (s 1 _ h)) k

/-- The hat function at plus infinity. -/
theorem hat_top (k : ℕ) : hat ⊤ k = 0 := by
  unfold hat; simp
/-- The hat function at minus infinity. -/
theorem hat_bot (k : ℕ) : hat ⊥ k = 0 := by
  unfold hat; simp
/-- The indicator at plus infinity. -/
theorem b0_top (k : ℕ) : b0 ⊤ k = 0 := by
  unfold b0; rw [if_neg]; rintro ⟨-, h⟩; exact absurd h (by simp)
/-- The indicator at minus infinity. -/
theorem b0_bot (k : ℕ) : b0 ⊥ k = 0 := by
  unfold b0; rw [if_neg]; rintro ⟨h, -⟩; exact absurd h (by simp)

/-- The kernel's function against a scaled weight is the basis function against the weight. -/
theorem cubic_scaled (x w : EReal) (k : ℕ) : cubic x k * (w * scale) = basis x k * w := by
  have hs0 : step ≠ 0 := step_pos.ne'
  induction x using EReal.rec with
  | bot => rw [cubic_zero _ hat_bot, basis_zero _ b0_bot, zero_mul, zero_mul]
  | top => rw [cubic_zero _ hat_top, basis_zero _ b0_top, zero_mul, zero_mul]
  | coe x =>
    rw [cubic_coe, basis_coe, cubicR_eq, mul_comm w, ← mul_assoc]
    congr 1
    unfold scale
    rw [← EReal.coe_mul]
    congr 1
    generalize nextR 3 _ x k = b
    field_simp

end Cert.Spline

end
-- ==== Proof.Kan.lean ====
/-
  One Kolmogorov-Arnold layer's output at one row and one output column, over the extended reals.
-/
module

public import proofs.«01_k».proof.Proof.Spline

@[expose] public section

noncomputable section

namespace Cert.Kan

open Idealize.ShloMosaic Cert.Spline

/-- The activation `x / (1 + exp (-x))`, as a product. -/
def silu (x : EReal) : EReal := x * Ideal.div 1 (1 + Ideal.exp (-x))

/-- One output of a layer: the activated inputs against the base weights plus the inputs' basis functions against the
    spline weights. -/
def layer {n : ℕ} (h : Fin n → EReal) (b : Fin n → EReal) (w : Fin n → Fin 8 → EReal) : EReal :=
  (∑ i, silu (h i) * b i) + ∑ i, ∑ k : Fin 8, basis (h i) k.val * w i k

/-- A sum over the kernel's stacked rows, eight groups of `n`, as a sum over the inputs and the basis functions. -/
theorem sum_stacked {n : ℕ} (f : Fin (8 * n) → EReal) :
    ∑ q, f q = ∑ i : Fin n, ∑ k : Fin 8, f (finProdFinEquiv (k, i)) := by
  rw [Finset.sum_comm, ← Finset.sum_product', Finset.univ_product_univ]
  exact (Equiv.sum_comp finProdFinEquiv f).symm

end Cert.Kan

end
-- ==== Proof.IdealLayers.lean ====
/-
  The two layers of the kernel's body, read at an index of the tile over the extended reals: each is `Kan.layer` of a row of
  the tile, when the stacked spline weights are the spline weights times `Spline.scale`.
-/
module

public import proofs.«01_k».proof.Proof.Kan
public import proofs.«01_k».proof.Proof.IdealBody
public import Idealize.ShloMosaic.Lib.Pointwise
public import Idealize.ShloMosaic.Lib.IdealHost

@[expose] public section

set_option maxRecDepth 16384

noncomputable section

namespace Cert.KernelIdeal.Layers

open Cert.KernelIdeal Cert.KernelIdeal.Gen Cert.KernelIdeal.Run
open Idealize.ShloMosaic Cert.Kan Cert.Spline

/-! ## The basis functions as arrays -/

/-- The float32 word of `k - 3`. -/
def word : ℕ → BitVec 32
  | 0 => 0xC0400000#32 | 1 => 0xC0000000#32 | 2 => 0xBF800000#32 | 3 => 0x00000000#32
  | 4 => 0x3F800000#32 | 5 => 0x40000000#32 | 6 => 0x40400000#32 | 7 => 0x40800000#32
  | 8 => 0x40A00000#32 | 9 => 0x40C00000#32 | 10 => 0x40E00000#32 | _ => 0x41000000#32

/-- The knot of number `k` as the body computes it. -/
def kn (k : ℕ) : Ideal .f32 :=
  Scalar.subf (Scalar.mulf (Scalar.ofBits .f32 (word k)) (Scalar.ofBits .f32 0x3ECCCCCD#32)) (Scalar.ofBits .f32 0x3F800000#32)

variable {s : Shape}

/-- The distances to knot `k`. -/
def sh (v : FVec Ideal s .f32) (k : ℕ) : FVec Ideal s .bf16 := truncf .bf16 (subf v (broadcast s (kn k))) bitsLt_bf16_f32
/-- The hat functions of number `k`. -/
def hatA (v : FVec Ideal s .f32) (k : ℕ) : FVec Ideal s .bf16 :=
  maximumf (broadcast s (Scalar.ofBits .bf16 0x0000#16))
    (minimumf (sh v k) (subf (broadcast s (Scalar.ofBits .bf16 0x0000#16)) (sh v (k + 2))))
/-- After the first recurrence. -/
def quadA (v : FVec Ideal s .f32) (k : ℕ) : FVec Ideal s .bf16 :=
  subf (mulf (sh v k) (hatA v k)) (mulf (sh v (k + 3)) (hatA v (k + 1)))
/-- After the second recurrence. -/
def cubA (v : FVec Ideal s .f32) (k : ℕ) : FVec Ideal s .bf16 :=
  subf (mulf (sh v k) (quadA v k)) (mulf (sh v (k + 4)) (quadA v (k + 1)))

/-- The word of the knots' distance. -/
theorem step_word : Ideal.ofBits .f32 0x3ECCCCCD#32 = (step : EReal) := by
  unfold step
  simp [Ideal.ofBits, Ideal.ieee, -EReal.coe_mul]; norm_num

/-- The kernel's traced knots are the knots. -/
theorem kn_eq (k : ℕ) (hk : k < 12) : kn k = (knot k : EReal) := by
  have e : ∀ (w : BitVec 32) (r : ℝ), Ideal.ofBits .f32 w = (r : EReal) →
      (Scalar.subf (Scalar.mulf (Scalar.ofBits .f32 w) (Scalar.ofBits .f32 0x3ECCCCCD#32)) (Scalar.ofBits .f32 0x3F800000#32) : Ideal .f32)
        = ((r * step - 1 : ℝ) : EReal) := by
    intro w r h
    show Ideal.ofBits .f32 w * Ideal.ofBits .f32 0x3ECCCCCD#32 - Ideal.ofBits .f32 0x3F800000#32 = _
    rw [h, step_word, Ideal.ofBits_one_f32]
    push_cast; rfl
  have hw : ∀ k : ℕ, k < 12 → Ideal.ofBits .f32 (word k) = (((k : ℝ) - 3 : ℝ) : EReal) := by
    intro k hk
    interval_cases k <;> simp [word, Ideal.ofBits, Ideal.ieee, -EReal.coe_mul, -EReal.coe_sub, -EReal.coe_neg] <;> norm_num
  exact e (word k) _ (hw k hk)

/-- The kernel's cubic arrays, entry by entry. -/
theorem cubA_apply (v : FVec Ideal s .f32) (k : ℕ) (hk : k < 8) (j : s.Idx) : cubA v k j = cubic (v j) k := by
  have hz : (Scalar.ofBits .bf16 0x0000#16 : Ideal .bf16) = (0 : EReal) := Ideal.ofBits_zero_bf16
  have hs : ∀ k, k < 12 → sh v k j = v j - (knot k : EReal) := fun k hk => by rw [← kn_eq k hk]; rfl
  have hh : ∀ k, k + 2 < 12 → hatA v k j = hat (v j) k := fun k hk => by
    unfold hat
    rw [← hs k (by omega), ← hs (k + 2) hk, ← hz]; rfl
  have hq : ∀ k, k + 3 < 12 → quadA v k j = quad (v j) k := fun k hk => by
    unfold quad
    rw [← hs k (by omega), ← hs (k + 3) hk, ← hh k (by omega), ← hh (k + 1) (by omega)]; rfl
  unfold cubic
  rw [← hs k (by omega), ← hs (k + 4) (by omega), ← hq k (by omega), ← hq (k + 1) (by omega)]; rfl

/-! ## The basis functions side by side -/

/-- The eight functions of the first layer's inputs, stacked along the columns. -/
def feat1 (h : FVec Ideal S1024x384 .f32) : FVec Ideal S1024x3072 .bf16 :=
  concatenate S1024x3072 1 [⟨S1024x384, cubA h 0⟩, ⟨S1024x384, cubA h 1⟩, ⟨S1024x384, cubA h 2⟩, ⟨S1024x384, cubA h 3⟩,
        ⟨S1024x384, cubA h 4⟩, ⟨S1024x384, cubA h 5⟩, ⟨S1024x384, cubA h 6⟩, ⟨S1024x384, cubA h 7⟩]
        concatenates_S1024x384_S1024x384_S1024x384_S1024x384_S1024x384_S1024x384_S1024x384_S1024x384_S1024x3072_d1

/-- The eight functions of the second layer's inputs, stacked along the columns. -/
def feat2 (h : FVec Ideal S1024x256 .f32) : FVec Ideal S1024x2048 .bf16 :=
  concatenate S1024x2048 1 [⟨S1024x256, cubA h 0⟩, ⟨S1024x256, cubA h 1⟩, ⟨S1024x256, cubA h 2⟩, ⟨S1024x256, cubA h 3⟩,
        ⟨S1024x256, cubA h 4⟩, ⟨S1024x256, cubA h 5⟩, ⟨S1024x256, cubA h 6⟩, ⟨S1024x256, cubA h 7⟩]
        concatenates_S1024x256_S1024x256_S1024x256_S1024x256_S1024x256_S1024x256_S1024x256_S1024x256_S1024x2048_d1

/-- The first layer's spline features: column `k * 384 + i` is spline `k` of feature `i`. -/
theorem feat1_apply (h : FVec Ideal S1024x384 .f32) (r : Fin 1024) (k : Fin 8) (i : Fin 384) :
    feat1 h (ix2 r (finProdFinEquiv (k, i) : Fin (8 * 384))) = cubic (h (ix2 r i)) k.val := by
  rw [← cubA_apply h k.val k.isLt]
  refine concatenate_ofFn_apply (t := S1024x3072) (s₁ := S1024x384) 1 (fun n : Fin 8 => cubA h n.val)
    concatenates_S1024x384_S1024x384_S1024x384_S1024x384_S1024x384_S1024x384_S1024x384_S1024x384_S1024x3072_d1
    rfl 384 rfl _ k ?_ (ix2 r i) ?_ ?_
  · show (i.val + 384 * k.val) / 384 = k.val
    omega
  · show i.val = (i.val + 384 * k.val) % 384
    omega
  · intro b hb
    match b with
    | ⟨0, _⟩ => rfl
    | ⟨1, _⟩ => exact absurd rfl hb

/-- The second layer's spline features: column `k * 256 + i` is spline `k` of feature `i`. -/
theorem feat2_apply (h : FVec Ideal S1024x256 .f32) (r : Fin 1024) (k : Fin 8) (i : Fin 256) :
    feat2 h (ix2 r (finProdFinEquiv (k, i) : Fin (8 * 256))) = cubic (h (ix2 r i)) k.val := by
  rw [← cubA_apply h k.val k.isLt]
  refine concatenate_ofFn_apply (t := S1024x2048) (s₁ := S1024x256) 1 (fun n : Fin 8 => cubA h n.val)
    concatenates_S1024x256_S1024x256_S1024x256_S1024x256_S1024x256_S1024x256_S1024x256_S1024x256_S1024x2048_d1
    rfl 256 rfl _ k ?_ (ix2 r i) ?_ ?_
  · show (i.val + 256 * k.val) / 256 = k.val
    omega
  · show i.val = (i.val + 256 * k.val) % 256
    omega
  · intro b hb
    match b with
    | ⟨0, _⟩ => rfl
    | ⟨1, _⟩ => exact absurd rfl hb

/-! ## The layers -/

/-- The first layer over a tile `h`, in these terms. -/
def lay1 (h : FVec Ideal S1024x384 .f32) (b : Vec Ideal S384x256 .bf16) (w : Vec Ideal S3072x256 .bf16) : FVec Ideal S1024x256 .f32 :=
  addf (matmul dot_S1024x384_S384x256_S1024x256_1_0_0_1_n_n none (truncf .bf16 (mulf h (logistic h)) bitsLt_bf16_f32)
      (shapeCast S384x256 b shapeCasts_S384x256_S384x256 : FVec Ideal S384x256 .bf16) (constant S1024x256 .f32 0x00000000#32))
    (matmul dot_S1024x3072_S3072x256_S1024x256_1_0_0_1_n_n none
      (feat1 h)
      (shapeCast S3072x256 w shapeCasts_S3072x256_S3072x256 : FVec Ideal S3072x256 .bf16) (constant S1024x256 .f32 0x00000000#32))

/-- The second layer over a tile `h`, in these terms. -/
def lay2 (h : FVec Ideal S1024x256 .f32) (b : Vec Ideal S256x128 .bf16) (w : Vec Ideal S2048x128 .bf16) : FVec Ideal S1024x128 .f32 :=
  addf (matmul dot_S1024x256_S256x128_S1024x128_1_0_0_1_n_n none (truncf .bf16 (mulf h (logistic h)) bitsLt_bf16_f32)
      (shapeCast S256x128 b shapeCasts_S256x128_S256x128 : FVec Ideal S256x128 .bf16) (constant S1024x128 .f32 0x00000000#32))
    (matmul dot_S1024x2048_S2048x128_S1024x128_1_0_0_1_n_n none
      (feat2 h)
      (shapeCast S2048x128 w shapeCasts_S2048x128_S2048x128 : FVec Ideal S2048x128 .bf16) (constant S1024x128 .f32 0x00000000#32))

/-- The body's first layer in the names used here. -/
theorem layer1_eq (v6 : FVec Ideal S1024x256 .f32) (v7 : Vec Ideal S1024x128 .f32) (b : Vec Ideal S384x256 .bf16)
    (w : Vec Ideal S3072x256 .bf16) : layer1 v6 v7 b w = lay1 (k0_pay23 v6 v7) b w := rfl

/-- The body's two layers in the names used here. -/
theorem layers_eq (v6 : FVec Ideal S1024x256 .f32) (v7 : Vec Ideal S1024x128 .f32) (b : Vec Ideal S384x256 .bf16)
    (w : Vec Ideal S3072x256 .bf16) (b2 : Vec Ideal S256x128 .bf16) (w2 : Vec Ideal S2048x128 .bf16) :
    layers v6 v7 b w b2 w2 = lay2 (lay1 (k0_pay23 v6 v7) b w) b2 w2 := by
  rw [← layer1_eq]; rfl

/-- One output of the first layer. -/
theorem lay1_apply (h : FVec Ideal S1024x384 .f32) (b : Vec Ideal S384x256 .bf16) (w : Vec Ideal S3072x256 .bf16)
    (W : Fin 384 → Fin 8 → EReal) (r : Fin 1024) (n : Fin 256)
    (hw : ∀ i k, w (ix2 (finProdFinEquiv (k, i) : Fin (8 * 384)) n) = W i k * scale) :
    lay1 h b w (ix2 r n) = layer (fun i => h (ix2 r i)) (fun i => b (ix2 i n)) W := by
  have e : lay1 h b w (ix2 r n)
      = (∑ i : Fin 384, silu (h (ix2 r i)) * b (ix2 i n)) + ∑ q : Fin (8 * 384), feat1 h (ix2 r q) * w (ix2 q n) := by
    unfold silu
    pointwise [lay1]
    rfl
  rw [e, sum_stacked]
  unfold layer
  congr 1
  refine Finset.sum_congr rfl fun i _ => Finset.sum_congr rfl fun k _ => ?_
  rw [feat1_apply, hw, cubic_scaled]

/-- One output of the second layer. -/
theorem lay2_apply (h : FVec Ideal S1024x256 .f32) (b : Vec Ideal S256x128 .bf16) (w : Vec Ideal S2048x128 .bf16)
    (W : Fin 256 → Fin 8 → EReal) (r : Fin 1024) (n : Fin 128)
    (hw : ∀ i k, w (ix2 (finProdFinEquiv (k, i) : Fin (8 * 256)) n) = W i k * scale) :
    lay2 h b w (ix2 r n) = layer (fun i => h (ix2 r i)) (fun i => b (ix2 i n)) W := by
  have e : lay2 h b w (ix2 r n)
      = (∑ i : Fin 256, silu (h (ix2 r i)) * b (ix2 i n)) + ∑ q : Fin (8 * 256), feat2 h (ix2 r q) * w (ix2 q n) := by
    unfold silu
    pointwise [lay2]
    rfl
  rw [e, sum_stacked]
  unfold layer
  congr 1
  refine Finset.sum_congr rfl fun i _ => Finset.sum_congr rfl fun k _ => ?_
  rw [feat2_apply, hw, cubic_scaled]

end Cert.KernelIdeal.Layers

end
-- ==== Proof.Blend.lean ====
/-
  The interpolation of a query from three points: weights that fall with the squared distance, and the weighted mean.
  Everything is over the reals; the programs reach it through extended reals that happen to be real.
-/
module

public import proofs.«01_k».proof.Proof.Spline

@[expose] public section

noncomputable section

namespace Cert.Blend

open Idealize.ShloMosaic Cert.Spline

/-- The least squared distance a weight is taken of. -/
def tiny : ℝ := (15111573 : ℝ) / 151115727451828646838272

/-- The least squared distance is positive. -/
theorem tiny_pos : 0 < tiny := by unfold tiny; norm_num

/-- The word of the least squared distance. -/
theorem tiny_word : Ideal.ofBits .f32 0x24E69595#32 = (tiny : EReal) := by
  unfold tiny
  simp [Ideal.ofBits, Ideal.ieee, -EReal.coe_mul]; norm_num

/-- The word of infinity. -/
theorem inf_word : Ideal.ofBits .f32 0x7F800000#32 = ⊤ := by
  simp [Ideal.ofBits, Ideal.ieee]

/-- The word of two. -/
theorem two_word : Ideal.ofBits .f32 0x40000000#32 = ((2 : ℝ) : EReal) := by
  simp [Ideal.ofBits, Ideal.ieee, -EReal.coe_mul]; norm_num

/-- The squared distance of two points. -/
def apart (p q : Fin 3 → ℝ) : ℝ := ∑ a, (q a - p a) * (q a - p a)

/-- The weight of a squared distance. -/
def weight (s : ℝ) : ℝ := (max s tiny)⁻¹

/-- A quotient of reals. -/
theorem div_coe (x y : ℝ) (hy : y ≠ 0) : Ideal.div (x : EReal) (y : EReal) = ((x / y : ℝ) : EReal) := by
  rw [div_real _ _ hy, ← EReal.coe_mul, div_eq_mul_inv]

/-- The weight of a real squared distance, as the programs compute it. -/
theorem weight_coe (s : ℝ) : Ideal.div 1 (max (s : EReal) (tiny : EReal)) = (weight s : EReal) := by
  have h : max s tiny ≠ 0 := (lt_of_lt_of_le tiny_pos (le_max_right _ _)).ne'
  rw [← coe_max, ← EReal.coe_one, div_coe _ _ h]
  unfold weight
  rw [one_div]

/-- A sum of reals among the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The weighted mean of three values. -/
def mean (x s : Fin 3 → ℝ) : EReal :=
  Ideal.div ((∑ j, x j * weight (s j) : ℝ) : EReal) ((∑ j, weight (s j) : ℝ) : EReal)

end Cert.Blend

end
-- ==== Proof.Three.lean ====
/-
  The three nearest of a row of distances: what it means for three positions to be the first three in the order of
  distance and then position, that a stable sort by distance puts them first, and that three passes of "least value,
  then least position holding it, then mask it" find them.
-/
module

public import Idealize.ShloMosaic.Lib.SortPrefix
public import Idealize.ShloMosaic.Lib.SortFacts
public import Idealize.ShloMosaic.PureOps.Ideal
public import Idealize.ShloMosaic.PureOps.Reduce
public import Mathlib.Tactic.Linarith
public import Mathlib.Data.Prod.Lex

@[expose] public section

noncomputable section

namespace Cert.Three

open Idealize.ShloMosaic

/-- Position `k` comes before position `l`: it is nearer, or as near and lower. -/
def Before {n : ℕ} {α : Type} [LinearOrder α] (d : Fin n → α) (k l : Fin n) : Prop := d k < d l ∨ (d k = d l ∧ k < l)

/-- `σ` lists the first three positions, in order. -/
structure FirstThree {n : ℕ} {α : Type} [LinearOrder α] (d : Fin n → α) (σ : Fin 3 → Fin n) : Prop where
  ord : ∀ a b : Fin 3, a < b → Before d (σ a) (σ b)
  dom : ∀ (a : Fin 3) (l : Fin n), (∀ b, σ b ≠ l) → Before d (σ a) l

section
variable {n : ℕ} {α : Type} [LinearOrder α] {d : Fin n → α}

/-- No position comes before itself. -/
theorem Before.ne {k l : Fin n} (h : Before d k l) : k ≠ l := by
  rintro rfl
  rcases h with h | h
  · exact lt_irrefl _ h
  · exact lt_irrefl _ h.2

/-- Of two positions one alone comes before the other. -/
theorem Before.asymm {k l : Fin n} (h : Before d k l) : ¬ Before d l k := by
  rintro (h' | h') <;> rcases h with h | h
  · exact lt_asymm h h'
  · exact h'.ne' h.1
  · exact h.ne' h'.1
  · exact lt_asymm h.2 h'.2

/-- The order is transitive. -/
theorem Before.trans {k l m : Fin n} (h : Before d k l) (h' : Before d l m) : Before d k m := by
  rcases h with h | h <;> rcases h' with h' | h'
  · exact Or.inl (h.trans h')
  · exact Or.inl (h'.1 ▸ h)
  · exact Or.inl (h.1 ▸ h')
  · exact Or.inr ⟨h.1.trans h'.1, h.2.trans h'.2⟩

/-- The first three are three different positions. -/
theorem FirstThree.inj {σ : Fin 3 → Fin n} (h : FirstThree d σ) : Function.Injective σ := by
  intro a b e
  rcases lt_trichotomy a b with c | c | c
  · exact absurd e (h.ord a b c).ne
  · exact c
  · exact absurd e.symm (h.ord b a c).ne
end

/-! ## A stable sort puts them first -/

/-- A stable sort of an increasing list compares a later position with an earlier one only, so two relations agreeing
    on those sort it alike. -/
theorem stableSort_later {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_later R R' h l hl.2]
    exact insertBefore_congr R R' a _ fun b hb => h a b (hl.1 b ((perm_stableSort R' l).mem_iff.mp hb))

/-- The same of the list of positions that the sort gives. -/
theorem sortedFrom_later {n : ℕ} (R R' : Fin n → Fin n → Bool) (h : ∀ a b, a < b → R b a = R' b a) :
    sortedFrom R = sortedFrom R' := by
  funext k
  have e : sortPositions n R = sortPositions n R' := stableSort_later R R' h _ (List.pairwise_lt_finRange n)
  unfold sortedFrom
  rw [List.get_of_eq e]
  rfl

/-- The first three positions of a stable sort by distance. -/
theorem sortedFrom_three {n : ℕ} {α : Type} [LinearOrder α] (d : Fin n → α) (σ : Fin 3 → Fin n) (hσ : FirstThree d σ)
    (R : Fin n → Fin n → Bool) (hR : ∀ k l, R k l = decide (d k < d l)) (hk : 3 ≤ n) (a : Fin 3) :
    sortedFrom R (a.castLE hk) = σ a := by
  have hB := StrictTotalBefore.of_key_then_position (fun x y : α => decide (x < y)) d
    (fun a => by simp) (fun a b c => by simpa using fun h h' => lt_trans h h')
    (fun a b => by simpa using lt_trichotomy a b)
  rw [sortedFrom_later R (fun k k' : Fin n => decide (d k < d k') || (decide (d k = d k') && decide (k < k')))
    (fun a b hab => by rw [hR]; simp [hab.le, not_lt.mpr hab.le])]
  have hbef : ∀ k l : Fin n, Before d k l → (decide (d l < d k) || (decide (d l = d k) && decide (l < k))) = false := by
    intro k l h
    have := h.asymm
    unfold Before at this
    simpa [not_or, not_and] using this
  exact hB.sortedFrom_eq_of_prefix hk σ hσ.inj (fun i j hij => hbef _ _ (hσ.ord i j hij))
    (fun i p hp => hbef _ _ (hσ.dom i p hp)) a

/-! ## Three passes find them -/

/-- A nonempty row has a first position. -/
theorem exists_first {n : ℕ} {α : Type} [LinearOrder α] (hn : 0 < n) (w : Fin n → α) :
    ∃ s, ∀ l, l ≠ s → Before w s l := by
  obtain ⟨s, -, hs⟩ := Finset.exists_min_image (Finset.univ : Finset (Fin n)) (fun l => toLex (w l, l)) ⟨⟨0, hn⟩, Finset.mem_univ _⟩
  refine ⟨s, fun l hl => ?_⟩
  have := hs l (Finset.mem_univ _)
  rw [Prod.Lex.le_iff] at this
  rcases this with h | ⟨h, h'⟩
  · exact Or.inl h
  · exact Or.inr ⟨h, lt_of_le_of_ne h' (Ne.symm hl)⟩

/-- Folding a choice of the lesser gives the least value, once it is among the values. -/
theorem fold_least {ι β κ : Type} [LinearOrder κ] [DecidableEq ι] (op : β → β → β) [Std.Commutative op] [Std.Associative op] (key : β → κ)
    (hinj : Function.Injective key) (hop : ∀ x y, op x y = if key x < key y then x else y)
    (b : β) (f : ι → β) (S : Finset ι) (s : ι) (hs : s ∈ S) (hb : key (f s) ≤ key b) (hf : ∀ x ∈ S, key (f s) ≤ key (f x)) :
    S.fold op b f = f s := by
  have hge : ∀ T : Finset ι, (∀ x ∈ T, key (f s) ≤ key (f x)) → key (f s) ≤ key (T.fold op b f) := by
    intro T
    induction T using Finset.induction_on with
    | empty => intro _; simpa using hb
    | insert a T ha ih =>
      intro h
      rw [Finset.fold_insert ha, hop]
      split
      · exact h a (Finset.mem_insert_self a T)
      · exact ih fun x hx => h x (Finset.mem_insert_of_mem hx)
  rw [← Finset.insert_erase hs, Finset.fold_insert (Finset.notMem_erase s S), hop]
  have h := hge (S.erase s) fun x hx => hf x (Finset.mem_of_mem_erase hx)
  split
  · rfl
  · next hn => exact (hinj (le_antisymm h (not_lt.mp hn))).symm

/-- The word a pass finds: the least of the positions holding the least value, as the kernel computes it. -/
def found (w : Fin 512 → EReal) : BitVec 32 :=
  Finset.fold IntOp.minsi 2147483647#32
    (fun x : Fin 512 => if w x = Finset.fold min ⊤ w Finset.univ then BitVec.ofNat 32 x.val else 512#32) Finset.univ

/-- A small number as a word and back. -/
theorem ofNat_toInt (l : ℕ) (h : l ≤ 512) : (BitVec.ofNat 32 l).toInt = (l : ℤ) := by
  rw [BitVec.toInt_ofNat']
  exact Int.bmod_eq_of_le (by omega) (by omega)

/-- Different places have different words. -/
theorem ofNat_inj (k l : Fin 512) : BitVec.ofNat 32 k.val = BitVec.ofNat 32 l.val ↔ k = l := by
  constructor
  · intro h
    have := congrArg BitVec.toInt h
    rw [ofNat_toInt _ (by omega), ofNat_toInt _ (by omega)] at this
    exact Fin.ext (by omega)
  · rintro rfl; rfl

/-- A pass finds the first position. -/
theorem found_eq (w : Fin 512 → EReal) (s : Fin 512) (hs : ∀ l, l ≠ s → Before w s l) :
    found w = BitVec.ofNat 32 s.val := by
  have hle : ∀ l, w s ≤ w l := fun l => by
    by_cases h : l = s
    · rw [h]
    · rcases hs l h with h | h
      · exact h.le
      · exact h.1.le
  have hmin : Finset.fold min ⊤ w Finset.univ = w s :=
    fold_least min id Function.injective_id (fun x y => by simp [min_def]; split_ifs <;> order) ⊤ w Finset.univ s (Finset.mem_univ _) le_top
      (fun x _ => hle x)
  unfold found
  rw [hmin]
  refine (fold_least IntOp.minsi BitVec.toInt (fun x y => BitVec.eq_of_toInt_eq)
    (fun x y => by unfold IntOp.minsi; simp [BitVec.slt]) _ _ Finset.univ s (Finset.mem_univ _) ?_ ?_).trans (if_pos rfl)
  · simp only [if_true]
    rw [ofNat_toInt _ (by omega)]
    have : (2147483647#32).toInt = 2147483647 := by decide
    omega
  · intro x _
    simp only [if_true]
    rw [ofNat_toInt _ (by omega)]
    split
    · next h =>
      rw [ofNat_toInt _ (by omega)]
      by_cases hx : x = s
      · rw [hx]
      · rcases hs x hx with h' | h'
        · exact absurd h h'.ne'
        · have := h'.2; omega
    · have : (512#32).toInt = 512 := by decide
      omega

/-- A row with one position masked. -/
def mask (w : Fin 512 → EReal) (s : Fin 512) (l : Fin 512) : EReal := if l = s then ⊤ else w l

/-- Three passes over a row of real distances, each masking what it found, find the first three positions. -/
theorem three_passes (d : Fin 512 → ℝ) :
    ∃ σ : Fin 3 → Fin 512, FirstThree d σ
      ∧ found (fun l => (d l : EReal)) = BitVec.ofNat 32 (σ 0).val
      ∧ found (mask (fun l => (d l : EReal)) (σ 0)) = BitVec.ofNat 32 (σ 1).val
      ∧ found (mask (mask (fun l => (d l : EReal)) (σ 0)) (σ 1)) = BitVec.ofNat 32 (σ 2).val := by
  obtain ⟨s0, h0⟩ := exists_first (by omega) (fun l => (d l : EReal))
  obtain ⟨s1, h1⟩ := exists_first (by omega) (mask (fun l => (d l : EReal)) s0)
  obtain ⟨s2, h2⟩ := exists_first (by omega) (mask (mask (fun l => (d l : EReal)) s0) s1)
  have b0 : ∀ l, l ≠ s0 → Before d s0 l := fun l hl => by
    rcases h0 l hl with h | ⟨h, h'⟩
    · exact Or.inl (EReal.coe_lt_coe_iff.mp h)
    · exact Or.inr ⟨EReal.coe_eq_coe_iff.mp h, h'⟩
  have n10 : s1 ≠ s0 := by
    intro e
    have ex : ∃ l : Fin 512, l ≠ s0 := ⟨if s0 = 0 then 1 else 0, by split_ifs with h <;> [rw [h]; exact Ne.symm h]; decide⟩
    obtain ⟨l, hl⟩ := ex
    have := h1 l (e ▸ hl)
    unfold Before mask at this
    rw [if_pos e, if_neg hl] at this
    rcases this with h | h
    · exact not_top_lt h
    · exact EReal.coe_ne_top _ h.1.symm
  have b1 : ∀ l, l ≠ s0 → l ≠ s1 → Before d s1 l := fun l hl hl1 => by
    have := h1 l hl1
    unfold Before mask at this
    rw [if_neg n10, if_neg hl] at this
    rcases this with h | ⟨h, h'⟩
    · exact Or.inl (EReal.coe_lt_coe_iff.mp h)
    · exact Or.inr ⟨EReal.coe_eq_coe_iff.mp h, h'⟩
  have n2 : s2 ≠ s0 ∧ s2 ≠ s1 := by
    by_contra e
    have e' : mask (mask (fun l => (d l : EReal)) s0) s1 s2 = ⊤ := by
      unfold mask
      by_cases c : s2 = s1
      · rw [if_pos c]
      · rw [if_neg c, if_pos (by by_contra c'; exact e ⟨c', c⟩)]
    have ex : ∃ l : Fin 512, l ≠ s0 ∧ l ≠ s1 := by
      by_contra hne
      push Not at hne
      have c0 := hne 0; have c1 := hne 1; have c2 := hne 2
      by_cases d0 : (0 : Fin 512) = s0
      · have d1 := c1 (by rw [← d0]; decide); have d2 := c2 (by rw [← d0]; decide)
        exact absurd (d1.trans d2.symm) (by decide)
      · by_cases d1 : (1 : Fin 512) = s0
        · have e0 := c0 d0; have d2 := c2 (by rw [← d1]; decide)
          exact absurd (e0.trans d2.symm) (by decide)
        · exact absurd ((c0 d0).trans (c1 d1).symm) (by decide)
    obtain ⟨l, hl0, hl1⟩ := ex
    have hls : l ≠ s2 := by
      rintro rfl; exact e ⟨hl0, hl1⟩
    have := h2 l hls
    unfold Before at this
    rw [e'] at this
    unfold mask at this
    rw [if_neg hl1, if_neg hl0] at this
    rcases this with h | h
    · exact not_top_lt h
    · exact EReal.coe_ne_top _ h.1.symm
  have b2 : ∀ l, l ≠ s0 → l ≠ s1 → l ≠ s2 → Before d s2 l := fun l hl hl1 hl2 => by
    have := h2 l hl2
    unfold Before mask at this
    rw [if_neg n2.2, if_neg n2.1, if_neg hl1, if_neg hl] at this
    rcases this with h | ⟨h, h'⟩
    · exact Or.inl (EReal.coe_lt_coe_iff.mp h)
    · exact Or.inr ⟨EReal.coe_eq_coe_iff.mp h, h'⟩
  refine ⟨![s0, s1, s2], ⟨?_, ?_⟩, found_eq _ _ h0, found_eq _ _ h1, found_eq _ _ h2⟩
  · have c01 : Before d s0 s1 := b0 s1 n10
    have c02 : Before d s0 s2 := b0 s2 n2.1
    have c12 : Before d s1 s2 := b1 s2 n2.1 n2.2
    intro a b hab
    fin_cases a <;> fin_cases b <;> first | exact c01 | exact c02 | exact c12 | exact absurd hab (by decide)
  · intro a l hl
    have l0 : l ≠ s0 := Ne.symm (hl 0)
    have l1 : l ≠ s1 := Ne.symm (hl 1)
    have l2 : l ≠ s2 := Ne.symm (hl 2)
    fin_cases a
    · exact b0 l l0
    · exact b1 l l0 l1
    · exact b2 l l0 l1 l2

end Cert.Three

end
-- ==== Proof.Rounding.lean ====
/-
  Float32's rounding of large numbers, over the reals, and what it does to the squared distances of points whose
  batch number is a fourth coordinate: within batch 0 it does nothing; within another batch it leaves no distance;
  between batches it cannot bring points together.
-/
module

public import proofs.«01_k».proof.Proof.Three
public import Mathlib.Algebra.Order.Floor.Ring
public import Mathlib.Tactic.Linarith
public import Mathlib.Tactic.NormNum
public import Mathlib.Tactic.Ring
public import Mathlib.Tactic.FieldSimp
public import Mathlib.Tactic.IntervalCases

@[expose] public section

noncomputable section

namespace Cert.Rounding

open Cert.Three

/-- The spacing of the float32 numbers around `v`, for `v` from `2^24` to `2^33`. -/
def spacing (v : ℝ) : ℝ :=
  if 4294967296 ≤ v then 512 else if 2147483648 ≤ v then 256 else if 1073741824 ≤ v then 128
  else if 536870912 ≤ v then 64 else if 268435456 ≤ v then 32 else if 134217728 ≤ v then 16
  else if 67108864 ≤ v then 8 else if 33554432 ≤ v then 4 else 2

/-- Numbers from `2^24` on are rounded to a multiple of the spacing. -/
def round (v : ℝ) : ℝ := if v < 16777216 then v else (⌊v / spacing v + 1 / 2⌋ : ℝ) * spacing v

/-- A spacing is positive. -/
theorem spacing_pos (v : ℝ) : 0 < spacing v := by unfold spacing; split_ifs <;> norm_num
/-- A spacing is at most 512. -/
theorem spacing_le (v : ℝ) : spacing v ≤ 512 := by unfold spacing; split_ifs <;> norm_num

/-- Numbers below `2^24` are not rounded. -/
theorem round_small {v : ℝ} (h : v < 16777216) : round v = v := if_pos h

/-- Rounding moves a number by at most 256. -/
theorem round_near (v : ℝ) : |round v - v| ≤ 256 := by
  unfold round
  split_ifs with h
  · simp
  · have hp := spacing_pos v
    have hl := spacing_le v
    generalize spacing v = u at hp hl
    have e : v = v / u * u := by field_simp
    have h1 := Int.floor_le (v / u + 1 / 2)
    have h2 := Int.lt_floor_add_one (v / u + 1 / 2)
    generalize (⌊v / u + 1 / 2⌋ : ℝ) = z at h1 h2
    have e2 : z * u - v = (z - v / u) * u := by rw [sub_mul]; congr 1
    rw [e2, abs_mul, abs_of_pos hp]
    have h3 : |z - v / u| ≤ 1 / 2 := abs_le.mpr ⟨by linarith, by linarith⟩
    nlinarith [abs_nonneg (z - v / u)]

/-- The multiple of the spacing that a number is rounded to, when it is known between which bounds the number lies. -/
theorem round_of {v u : ℝ} {z : ℤ} (hv : 16777216 ≤ v) (hs : spacing v = u)
    (h1 : (z : ℝ) ≤ v / u + 1 / 2) (h2 : v / u + 1 / 2 < z + 1) : round v = z * u := by
  unfold round
  rw [if_neg (not_lt.mpr hv), hs, Int.floor_eq_iff.mpr ⟨h1, h2⟩]

/-- The rounded square of a batch's coordinate swallows an addition of up to 3. -/
theorem round_batch (b : ℕ) (h1 : 1 ≤ b) (h7 : b < 8) : ∃ c : ℝ, ∀ s : ℝ, 0 ≤ s → s ≤ 3 → round (s + 100000000 * b * b) = c := by
  have key : ∃ (u : ℝ) (z : ℤ), ∀ s : ℝ, 0 ≤ s → s ≤ 3 → spacing (s + 100000000 * b * b) = u ∧
      (z : ℝ) ≤ (s + 100000000 * b * b) / u + 1 / 2 ∧ (s + 100000000 * b * b) / u + 1 / 2 < z + 1 := by
    have sp : ∀ (u : ℝ) (z : ℤ), (∀ s : ℝ, 0 ≤ s → s ≤ 3 → spacing (s + 100000000 * b * b) = u ∧ 0 < u ∧
        (z : ℝ) * u ≤ (s + 100000000 * b * b) + 1 / 2 * u ∧ (s + 100000000 * b * b) + 1 / 2 * u < (z + 1) * u) →
        ∃ (u : ℝ) (z : ℤ), ∀ s : ℝ, 0 ≤ s → s ≤ 3 → spacing (s + 100000000 * b * b) = u ∧
      (z : ℝ) ≤ (s + 100000000 * b * b) / u + 1 / 2 ∧ (s + 100000000 * b * b) / u + 1 / 2 < z + 1 := by
      intro u z h
      refine ⟨u, z, fun s a1 a2 => ?_⟩
      obtain ⟨e, hu, x1, x2⟩ := h s a1 a2
      have e2 : (s + 100000000 * b * b) / u + 1 / 2 = ((s + 100000000 * b * b) + 1 / 2 * u) / u := by field_simp
      rw [e2]
      exact ⟨e, (le_div_iff₀ hu).mpr x1, (div_lt_iff₀ hu).mpr x2⟩
    have lo : ∀ (v x : ℝ), v < x → ¬ x ≤ v := fun v x h => not_le.mpr h
    interval_cases b
    · refine sp 8 12500000 fun s a1 a2 => ⟨?_, by norm_num, by push_cast; linarith, by push_cast; linarith⟩
      unfold spacing; push_cast
      rw [if_neg (by linarith), if_neg (by linarith), if_neg (by linarith), if_neg (by linarith), if_neg (by linarith), if_neg (by linarith), if_pos (by linarith)]
    · refine sp 32 12500000 fun s a1 a2 => ⟨?_, by norm_num, by push_cast; linarith, by push_cast; linarith⟩
      unfold spacing; push_cast
      rw [if_neg (by linarith), if_neg (by linarith), if_neg (by linarith), if_neg (by linarith), if_pos (by linarith)]
    · refine sp 64 14062500 fun s a1 a2 => ⟨?_, by norm_num, by push_cast; linarith, by push_cast; linarith⟩
      unfold spacing; push_cast
      rw [if_neg (by linarith), if_neg (by linarith), if_neg (by linarith), if_pos (by linarith)]
    · refine sp 128 12500000 fun s a1 a2 => ⟨?_, by norm_num, by push_cast; linarith, by push_cast; linarith⟩
      unfold spacing; push_cast
      rw [if_neg (by linarith), if_neg (by linarith), if_pos (by linarith)]
    · refine sp 256 9765625 fun s a1 a2 => ⟨?_, by norm_num, by push_cast; linarith, by push_cast; linarith⟩
      unfold spacing; push_cast
      rw [if_neg (by linarith), if_pos (by linarith)]
    · refine sp 256 14062500 fun s a1 a2 => ⟨?_, by norm_num, by push_cast; linarith, by push_cast; linarith⟩
      unfold spacing; push_cast
      rw [if_neg (by linarith), if_pos (by linarith)]
    · refine sp 512 9570313 fun s a1 a2 => ⟨?_, by norm_num, by push_cast; linarith, by push_cast; linarith⟩
      unfold spacing; push_cast
      rw [if_pos (by linarith)]
  obtain ⟨u, z, h⟩ := key
  refine ⟨z * u, fun s a1 a2 => ?_⟩
  obtain ⟨e, x1, x2⟩ := h s a1 a2
  have hb : (1 : ℝ) ≤ b := by exact_mod_cast h1
  exact round_of (by nlinarith) e x1 x2

/-- The distance the reference sorts by, between points `p` of batch `b` and `q` of batch `b'`. -/
def dist (p : Fin 3 → ℝ) (b : ℕ) (q : Fin 3 → ℝ) (b' : ℕ) : ℝ :=
  round (∑ a, p a * p a + 100000000 * b * b) - 2 * round (∑ a, p a * q a + 100000000 * b * b')
    + round (∑ a, q a * q a + 100000000 * b' * b')

/-- The squared distance, expanded as the kernel computes it. -/
def dist0 (p q : Fin 3 → ℝ) : ℝ := ∑ a, p a * p a - 2 * ∑ a, p a * q a + ∑ a, q a * q a

/-- The inner product of two points of the unit cube is between zero and three. -/
theorem sum_range (p q : Fin 3 → ℝ) (hp : ∀ a, 0 ≤ p a ∧ p a ≤ 1) (hq : ∀ a, 0 ≤ q a ∧ q a ≤ 1) :
    0 ≤ ∑ a, p a * q a ∧ ∑ a, p a * q a ≤ 3 := by
  have h : ∀ a, 0 ≤ p a * q a ∧ p a * q a ≤ 1 := fun a =>
    ⟨mul_nonneg (hp a).1 (hq a).1, mul_le_one₀ (hp a).2 (hq a).1 (hq a).2⟩
  rw [Fin.sum_univ_three]
  constructor <;> linarith [h 0, h 1, h 2, (h 0).1, (h 1).1, (h 2).1, (h 0).2, (h 1).2, (h 2).2]

/-- Two points of the unit cube are at a squared distance of at most six by this bound. -/
theorem dist0_range (p q : Fin 3 → ℝ) (hp : ∀ a, 0 ≤ p a ∧ p a ≤ 1) (hq : ∀ a, 0 ≤ q a ∧ q a ≤ 1) : dist0 p q ≤ 6 := by
  unfold dist0
  linarith [sum_range p p hp hp, sum_range p q hp hq, sum_range q q hq hq, (sum_range p p hp hp).2, (sum_range p q hp hq).1, (sum_range q q hq hq).2]

/-- The expanded squared distance is a square. -/
theorem dist0_nonneg (p q : Fin 3 → ℝ) : 0 ≤ dist0 p q := by
  unfold dist0
  simp only [Fin.sum_univ_three]
  nlinarith [sq_nonneg (p 0 - q 0), sq_nonneg (p 1 - q 1), sq_nonneg (p 2 - q 2)]

/-- Within batch 0 it is the squared distance. -/
theorem dist_zero (p q : Fin 3 → ℝ) (hp : ∀ a, 0 ≤ p a ∧ p a ≤ 1) (hq : ∀ a, 0 ≤ q a ∧ q a ≤ 1) :
    dist p 0 q 0 = dist0 p q := by
  unfold dist dist0
  have h1 := (sum_range p p hp hp).2
  have h2 := (sum_range p q hp hq).2
  have h3 := (sum_range q q hq hq).2
  simp only [Nat.cast_zero, mul_zero, add_zero]
  rw [round_small (by linarith), round_small (by linarith), round_small (by linarith)]

/-- Within another batch it is zero. -/
theorem dist_same (p q : Fin 3 → ℝ) (hp : ∀ a, 0 ≤ p a ∧ p a ≤ 1) (hq : ∀ a, 0 ≤ q a ∧ q a ≤ 1) (b : ℕ) (h1 : 1 ≤ b) (h8 : b < 8) :
    dist p b q b = 0 := by
  obtain ⟨c, hc⟩ := round_batch b h1 h8
  unfold dist
  have e1 := sum_range p p hp hp
  have e2 := sum_range p q hp hq
  have e3 := sum_range q q hq hq
  rw [hc _ e1.1 e1.2, hc _ e2.1 e2.2, hc _ e3.1 e3.2]
  ring

/-- Between different batches it is large. -/
theorem dist_far (p q : Fin 3 → ℝ) (b b' : ℕ) (h : b ≠ b') : 6 < dist p b q b' := by
  have hd := dist0_nonneg p q
  unfold dist0 at hd
  unfold dist
  have r1 := abs_le.mp (round_near (∑ a, p a * p a + 100000000 * b * b))
  have r2 := abs_le.mp (round_near (∑ a, p a * q a + 100000000 * b * b'))
  have r3 := abs_le.mp (round_near (∑ a, q a * q a + 100000000 * b' * b'))
  have hsq : (1 : ℝ) ≤ ((b : ℝ) - b') * ((b : ℝ) - b') := by
    have : (1 : ℤ) ≤ ((b : ℤ) - b') * ((b : ℤ) - b') := by
      have h' : (b : ℤ) - b' ≠ 0 := by omega
      rcases lt_or_gt_of_ne h' with c | c <;> nlinarith
    exact_mod_cast this
  nlinarith [r1.1, r2.2, r3.1]

/-- The batch of a point among the 4096: 512 to a batch. -/
def batch (l : Fin 4096) : ℕ := l.val / 512

/-- The point at place `l` of batch `b`. -/
def place (b : Fin 8) (l : Fin 512) : Fin 4096 := ⟨512 * b.val + l.val, by omega⟩

/-- The batch of a place in batch `b` is `b`. -/
theorem batch_place (b : Fin 8) (l : Fin 512) : batch (place b l) = b.val := by unfold batch place; simp only; omega

/-- A point of batch `b` is a place in it. -/
theorem eq_place (l : Fin 4096) (b : Fin 8) (h : batch l = b.val) : l = place b ⟨l.val % 512, by omega⟩ := by
  unfold batch at h
  ext; simp only [place]; omega

/-- In batch 0 the first three by the reference's distance are the first three of the batch by squared distance. -/
theorem first_zero (p : Fin 3 → ℝ) (q : Fin 4096 → Fin 3 → ℝ) (hp : ∀ a, 0 ≤ p a ∧ p a ≤ 1)
    (hq : ∀ l a, 0 ≤ q l a ∧ q l a ≤ 1) (σ : Fin 3 → Fin 512)
    (hσ : FirstThree (fun l => dist0 p (q (place 0 l))) σ) :
    FirstThree (fun l => dist p 0 (q l) (batch l)) (fun a => place 0 (σ a)) := by
  have hd : ∀ l, dist p 0 (q (place 0 l)) (batch (place 0 l)) = dist0 p (q (place 0 l)) := fun l => by
    rw [batch_place]; exact dist_zero p _ hp (hq _)
  have lift : ∀ k l, Before (fun l => dist0 p (q (place 0 l))) k l → Before (fun l => dist p 0 (q l) (batch l)) (place 0 k) (place 0 l) := by
    intro k l h
    unfold Before at h ⊢
    simp only [hd]
    rcases h with h | ⟨h, h'⟩
    · exact Or.inl h
    · refine Or.inr ⟨h, ?_⟩
      rw [Fin.lt_def] at h' ⊢
      simp only [place]; omega
  refine ⟨fun a b hab => lift _ _ (hσ.ord a b hab), fun a l hl => ?_⟩
  by_cases hb : batch l = 0
  · have e := eq_place l 0 hb
    rw [e]
    refine lift _ _ (hσ.dom a _ fun c hc => hl c ?_)
    rw [hc, ← e]
  · left
    simp only [hd]
    exact lt_of_le_of_lt (dist0_range p _ hp (hq _)) (dist_far p _ 0 _ (Ne.symm hb))

/-- In another batch the first three by the reference's distance are the first three of the batch. -/
theorem first_rest (p : Fin 3 → ℝ) (q : Fin 4096 → Fin 3 → ℝ) (hp : ∀ a, 0 ≤ p a ∧ p a ≤ 1)
    (hq : ∀ l a, 0 ≤ q l a ∧ q l a ≤ 1) (b : Fin 8) (h1 : 1 ≤ b.val) :
    FirstThree (fun l => dist p b.val (q l) (batch l)) (fun a => place b (a.castLE (by omega))) := by
  have hd : ∀ l, dist p b.val (q (place b l)) (batch (place b l)) = 0 := fun l => by
    rw [batch_place]; exact dist_same p _ hp (hq _) b.val h1 b.isLt
  refine ⟨fun a c hac => Or.inr ⟨by simp only [hd], ?_⟩, fun a l hl => ?_⟩
  · rw [Fin.lt_def] at hac ⊢
    simp only [place, Fin.val_castLE]; omega
  · by_cases hb : batch l = b.val
    · have e := eq_place l b hb
      right
      refine ⟨by simp only [hd]; rw [e, hd], ?_⟩
      have h3 : 3 ≤ l.val % 512 := by
        by_contra hlt
        refine hl ⟨l.val % 512, by omega⟩ ?_
        have e' := congrArg Fin.val e
        ext; simp only [place, Fin.val_castLE] at e' ⊢; exact e'.symm
      have e' := congrArg Fin.val e
      rw [Fin.lt_def]
      simp only [place, Fin.val_castLE] at e' ⊢; omega
    · left
      simp only [hd]
      have := dist_far p (q l) b.val _ (Ne.symm hb)
      linarith

end Cert.Rounding

end
-- ==== Proof.IdealNear.lean ====
/-
  The kernel's interpolated features at an index over the extended reals, where positions and features are real.
-/
module

public import proofs.«01_k».proof.Proof.IdealBody
public import proofs.«01_k».proof.Proof.Blend
public import proofs.«01_k».proof.Proof.Three
public import proofs.«01_k».proof.Proof.Rounding
public import Idealize.ShloMosaic.Lib.Pointwise
public import Idealize.ShloMosaic.Lib.IdealHost

@[expose] public section

set_option maxRecDepth 16384

noncomputable section

namespace Cert.KernelIdeal.Near

open Cert.KernelIdeal Cert.KernelIdeal.Gen Cert.KernelIdeal.Run
open Idealize.ShloMosaic Cert.Three Cert.Blend Cert.Rounding

/-- Whether place `l` is the place `s`. -/
def hot (l s : Fin 512) : BitVec 1 := BitVec.ofBool (decide (l = s))

/-- A choice by `hot` is a choice by equality of places. -/
theorem select_hot {α : Type} (l s : Fin 512) (a b : α) : Scalar.select (hot l s) a b = if l = s then a else b := by
  unfold hot Scalar.select
  by_cases h : l = s <;> simp [h]

/-- The comparison of a place number with `s` is `hot`. -/
theorem eq_hot (l s : Fin 512) : IntOp.cmpi CmpIPredicate.eq (BitVec.ofNat 32 l.val) (BitVec.ofNat 32 s.val) = hot l s := by
  show BitVec.ofBool (decide (BitVec.ofNat 32 l.val = BitVec.ofNat 32 s.val)) = hot l s
  unfold hot
  congr 1
  rw [decide_eq_decide]
  exact ofNat_inj l s

/-- The positions along a row, as words. -/
theorem places (r : Fin 1024) (l : Fin 512) :
    (iota .tc S1024x512 32 [1] iota_S1024x512_d1_w32 : IVec S1024x512 32) (ix2 r l) = BitVec.ofNat 32 l.val := by
  pointwise

/-- The distances a row is searched by. -/
theorem pay7_apply (v0 : Vec Ideal S1024x3 .f32) (v2 : FVec Ideal S3x512 .f32) (r : Fin 1024) (p : Fin 3 → ℝ)
    (q : Fin 512 → Fin 3 → ℝ) (hp : ∀ a, v0 (ix2 r a) = (p a : EReal)) (hq : ∀ l a, v2 (ix2 a l) = (q l a : EReal)) (l : Fin 512) :
    k0_pay7 v0 v2 (ix2 r l) = (dist0 p (q l) : EReal) := by
  pointwise [k0_pay7]
  simp only [hp, hq]
  rw [show Ideal.ofBits FTy.f32 1073741824#32 = ((2 : ℝ) : EReal) from two_word]
  simp only [← EReal.coe_mul, ← coe_sum, ← EReal.coe_sub, ← EReal.coe_add]
  rfl

/-- The squared distances taken directly. -/
theorem pay8_apply (v0 : Vec Ideal S1024x3 .f32) (v2 : FVec Ideal S3x512 .f32) (r : Fin 1024) (p : Fin 3 → ℝ)
    (q : Fin 512 → Fin 3 → ℝ) (hp : ∀ a, v0 (ix2 r a) = (p a : EReal)) (hq : ∀ l a, v2 (ix2 a l) = (q l a : EReal)) (l : Fin 512) :
    k0_pay8 v0 v2 (ix2 r l) = (apart p (q l) : EReal) := by
  pointwise [k0_pay8]
  simp only [hp, hq, ← EReal.coe_mul, ← EReal.coe_sub, ← EReal.coe_add]
  congr 1
  unfold apart
  rw [Fin.sum_univ_three]
  ring

section
variable (v348 v368 : FVec Ideal S1024x512 .f32) (v369 : IVec S1024x512 32) (v381 : IVec S1024x512 1) (r : Fin 1024)
  (w : Fin 512 → EReal) (s : Fin 512 → ℝ) (σ : Fin 3 → Fin 512)

/-- After the first pass its place is masked. -/
theorem pay14_apply (h348 : ∀ l, v348 (ix2 r l) = w l) (h381 : ∀ l, v381 (ix2 r l) = hot l (σ 0)) (l : Fin 512) :
    k0_pay14 v348 v381 (ix2 r l) = mask w (σ 0) l := by
  pointwise [k0_pay14]
  rw [h348, h381, select_hot, show Ideal.ofBits FTy.f32 2139095040#32 = ⊤ from inf_word]
  rfl

/-- The second pass finds the second place. -/
theorem pay15_apply (h348 : ∀ l, v348 (ix2 r l) = w l) (h369 : ∀ l, v369 (ix2 r l) = BitVec.ofNat 32 l.val)
    (h381 : ∀ l, v381 (ix2 r l) = hot l (σ 0))
    (hf : found (mask w (σ 0)) = BitVec.ofNat 32 (σ 1).val) (l : Fin 512) :
    k0_pay15 v348 v369 v381 (ix2 r l) = hot l (σ 1) := by
  pointwise [k0_pay15]
  simp only [pay14_apply v348 v381 r w σ h348 h381, h369]
  rw [show Ideal.ofBits FTy.f32 2139095040#32 = ⊤ from inf_word, ← eq_hot, ← hf]
  rfl

/-- The third pass's candidates. -/
theorem pay19_apply (h348 : ∀ l, v348 (ix2 r l) = w l) (h369 : ∀ l, v369 (ix2 r l) = BitVec.ofNat 32 l.val)
    (h381 : ∀ l, v381 (ix2 r l) = hot l (σ 0))
    (hf : found (mask w (σ 0)) = BitVec.ofNat 32 (σ 1).val) (l : Fin 512) :
    k0_pay19 v348 v369 v381 (ix2 r l)
      = if mask (mask w (σ 0)) (σ 1) l = Finset.fold min ⊤ (mask (mask w (σ 0)) (σ 1)) Finset.univ
        then BitVec.ofNat 32 l.val else 512#32 := by
  pointwise [k0_pay19]
  simp only [pay14_apply v348 v381 r w σ h348 h381, pay15_apply v348 v369 v381 r w σ h348 h369 h381 hf, h369, select_hot]
  rw [show Ideal.ofBits FTy.f32 2139095040#32 = ⊤ from inf_word]
  rfl

/-- The sum of a row's entries at one place is the entry there. -/
theorem sum_hot (s : Fin 512) (f : Fin 512 → EReal) : ∑ x, Scalar.select (hot x s) (f x) 0 = f s := by
  simp only [select_hot, Finset.sum_ite_eq', Finset.mem_univ, if_true]

/-- The weight of the second place. -/
theorem pay16_apply (h348 : ∀ l, v348 (ix2 r l) = w l) (h369 : ∀ l, v369 (ix2 r l) = BitVec.ofNat 32 l.val)
    (h381 : ∀ l, v381 (ix2 r l) = hot l (σ 0)) (h368 : ∀ l, v368 (ix2 r l) = (s l : EReal))
    (hf : found (mask w (σ 0)) = BitVec.ofNat 32 (σ 1).val) :
    k0_pay16 v348 v368 v369 v381 (ix2 r 0) = (weight (s (σ 1)) : EReal) := by
  pointwise [k0_pay16]
  simp only [pay15_apply v348 v369 v381 r w σ h348 h369 h381 hf, h368]
  rw [sum_hot, show Ideal.ofBits FTy.f32 619091349#32 = _ from tiny_word, weight_coe]

/-- The weight of the first place. -/
theorem pay13_apply (v384 : FVec Ideal S1024 .f32) (h384 : v384 (ix1 r) = (s (σ 0) : EReal)) :
    k0_pay13 v384 (ix2 r 0) = (weight (s (σ 0)) : EReal) := by
  pointwise [k0_pay13]
  rw [h384, show Ideal.ofBits FTy.f32 619091349#32 = _ from tiny_word, weight_coe]

/-- A weight at one place of a row. -/
def at1 (s : Fin 512) (v : ℝ) (l : Fin 512) : ℝ := if l = s then v else 0

/-- `at1` among the extended reals. -/
theorem at1_coe (s : Fin 512) (v : ℝ) (l : Fin 512) : (if l = s then (v : EReal) else 0) = (at1 s v l : EReal) := by
  unfold at1; split_ifs <;> simp

/-- The first two weights, each at its place. -/
theorem pay17_apply (v370 : FVec Ideal S1024x512 .f32) (v384 : FVec Ideal S1024 .f32)
    (h348 : ∀ l, v348 (ix2 r l) = w l) (h369 : ∀ l, v369 (ix2 r l) = BitVec.ofNat 32 l.val)
    (h381 : ∀ l, v381 (ix2 r l) = hot l (σ 0)) (h368 : ∀ l, v368 (ix2 r l) = (s l : EReal))
    (hf : found (mask w (σ 0)) = BitVec.ofNat 32 (σ 1).val) (h370 : ∀ l, v370 (ix2 r l) = 0) (h384 : v384 (ix1 r) = (s (σ 0) : EReal)) (l : Fin 512) :
    k0_pay17 v348 v368 v369 v370 v381 v384 (ix2 r l)
      = ((at1 (σ 0) (weight (s (σ 0))) l + at1 (σ 1) (weight (s (σ 1))) l : ℝ) : EReal) := by
  pointwise [k0_pay17]
  simp only [pay15_apply v348 v369 v381 r w σ h348 h369 h381 hf, h370, h381, select_hot, zero_add,
    pay16_apply v348 v368 v369 v381 r w s σ h348 h369 h381 h368 hf, pay13_apply r s σ v384 h384, at1_coe, EReal.coe_add]

/-- The sum of the first two weights. -/
theorem pay18_apply (v371 : FVec Ideal S1024x1 .f32) (v384 : FVec Ideal S1024 .f32)
    (h348 : ∀ l, v348 (ix2 r l) = w l) (h369 : ∀ l, v369 (ix2 r l) = BitVec.ofNat 32 l.val)
    (h381 : ∀ l, v381 (ix2 r l) = hot l (σ 0)) (h368 : ∀ l, v368 (ix2 r l) = (s l : EReal))
    (hf : found (mask w (σ 0)) = BitVec.ofNat 32 (σ 1).val) (h371 : v371 (ix2 r 0) = 0) (h384 : v384 (ix1 r) = (s (σ 0) : EReal)) :
    k0_pay18 v348 v368 v369 v371 v381 v384 (ix2 r 0) = ((weight (s (σ 0)) + weight (s (σ 1)) : ℝ) : EReal) := by
  pointwise [k0_pay18]
  simp only [h371, zero_add,
    pay16_apply v348 v368 v369 v381 r w s σ h348 h369 h381 h368 hf, pay13_apply r s σ v384 h384, EReal.coe_add]

/-- A row of real weights times a column of real features, with the two corrections that vanish. -/
theorem dot_real (n x : Fin 512 → ℝ) :
    (∑ l, (n l : EReal) * (x l : EReal))
        + ((∑ l, (n l : EReal) * ((x l : EReal) - (x l : EReal))) + ∑ l, ((n l : EReal) - (n l : EReal)) * (x l : EReal))
      = ((∑ l, n l * x l : ℝ) : EReal) := by
  simp only [← EReal.coe_sub, sub_self, ← EReal.coe_mul, ← coe_sum, ← EReal.coe_add, mul_zero, zero_mul, Finset.sum_const_zero, add_zero]

/-- The third pass and the weighted mean. -/
theorem pay21_apply (v420 : FVec Ideal S1024x512 .f32) (v421 : FVec Ideal S1024x1 .f32) (v429 : IVec S1024x512 32)
    (v448 : Vec Ideal S512x256 .f32) (c : Fin 256) (x : Fin 512 → ℝ)
    (h369 : ∀ l, v369 (ix2 r l) = BitVec.ofNat 32 l.val) (h368 : ∀ l, v368 (ix2 r l) = (s l : EReal))
    (h420 : ∀ l, v420 (ix2 r l) = ((at1 (σ 0) (weight (s (σ 0))) l + at1 (σ 1) (weight (s (σ 1))) l : ℝ) : EReal))
    (h421 : v421 (ix2 r 0) = ((weight (s (σ 0)) + weight (s (σ 1)) : ℝ) : EReal))
    (h429 : Finset.fold IntOp.minsi 2147483647#32 (fun l : Fin 512 => v429 (ix2 r l)) Finset.univ = BitVec.ofNat 32 (σ 2).val)
    (hx : ∀ l, v448 (ix2 l c) = (x l : EReal)) :
    k0_pay21 v368 v369 v420 v421 v429 v448 (ix2 r c) = mean (fun j => x (σ j)) (fun j => s (σ j)) := by
  pointwise [k0_pay21]
  simp only [h429, h369, eq_hot]
  simp only [sum_hot]
  simp only [h368, select_hot, h420, h421, hx]
  rw [show Ideal.ofBits FTy.f32 619091349#32 = _ from tiny_word]
  simp only [weight_coe, at1_coe, ← EReal.coe_add]
  rw [dot_real]
  unfold mean
  simp only [Fin.sum_univ_three, at1, add_mul, ite_mul, zero_mul, Finset.sum_add_distrib, Finset.sum_ite_eq', Finset.mem_univ, if_true]
  simp only [mul_comm]

end

/-- The interpolated features of a query of batch 0: from the first three points of its block by squared distance. -/
theorem near0_apply (v0 : Vec Ideal S1024x3 .f32) (v1 : Vec Ideal S3x512 .f32) (v448 : Vec Ideal S512x256 .f32) (r : Fin 1024)
    (p : Fin 3 → ℝ) (q : Fin 512 → Fin 3 → ℝ) (x : Fin 512 → Fin 256 → ℝ)
    (hp : ∀ a, v0 (ix2 r a) = (p a : EReal)) (hq : ∀ l a, v1 (ix2 a l) = (q l a : EReal)) (hx : ∀ l c, v448 (ix2 l c) = (x l c : EReal)) :
    ∃ σ : Fin 3 → Fin 512, FirstThree (fun l => dist0 p (q l)) σ
      ∧ ∀ c, near0 v0 v1 v448 (ix2 r c) = mean (fun j => x (σ j) c) (fun j => apart p (q (σ j))) := by
  obtain ⟨σ, hσ, f0, f1, f2⟩ := three_passes (fun l => dist0 p (q l))
  refine ⟨σ, hσ, fun c => ?_⟩
  have hq2 : ∀ l a, k0_pay20 v1 (ix2 a l) = (q l a : EReal) := fun l a => by
    pointwise [k0_pay20]; exact hq l a
  have h7 := pay7_apply v0 (k0_pay20 v1) r p q hp hq2
  have h8 := pay8_apply v0 (k0_pay20 v1) r p q hp hq2
  have h11 : ∀ l, k0_pay11 v0 (k0_pay20 v1) (ix2 r l) = hot l (σ 0) := fun l => by
    pointwise [k0_pay11]
    simp only [h7]
    rw [show Ideal.ofBits FTy.f32 2139095040#32 = ⊤ from inf_word, ← eq_hot, ← f0]
    rfl
  have h12 : k0_pay12 v0 (k0_pay20 v1) (ix1 r) = (apart p (q (σ 0)) : EReal) := by
    pointwise [k0_pay12]
    simp only [h11, h8]
    rw [sum_hot]
  unfold near0
  refine pay21_apply _ _ r (fun l => apart p (q l)) σ _ _ _ _ c (fun l => x l c) (places r) h8
    (pay17_apply _ _ _ _ r _ (fun l => apart p (q l)) σ _ _ h7 (places r) h11 h8 f1 (fun l => by pointwise [k0_pay9]) h12)
    (pay18_apply _ _ _ _ r _ (fun l => apart p (q l)) σ _ _ h7 (places r) h11 h8 f1 (by pointwise [k0_pay10]) h12) ?_ (fun l => hx l c)
  simp only [pay19_apply _ _ _ r _ σ h7 (places r) h11 f1]
  exact f2

/-- The interpolated features of a query of another batch: from the first three points of its block. -/
theorem nearRest_apply (v0 : Vec Ideal S1024x3 .f32) (v1 : Vec Ideal S3x512 .f32) (a b d : Vec Ideal S1x256 .f32) (r : Fin 1024) (c : Fin 256)
    (p : Fin 3 → ℝ) (q : Fin 3 → Fin 3 → ℝ) (x : Fin 3 → ℝ)
    (hp : ∀ a, v0 (ix2 r a) = (p a : EReal)) (hq : ∀ (l : Fin 3) a, v1 (ix2 a ⟨l.val, by omega⟩) = (q l a : EReal))
    (h0 : a (ix2 0 c) = (x 0 : EReal)) (h1 : b (ix2 0 c) = (x 1 : EReal)) (h2 : d (ix2 0 c) = (x 2 : EReal)) :
    nearRest v0 v1 a b d (ix2 r c) = mean x (fun j => apart p (q j)) := by
  have hq2 : ∀ (l : Fin 3) (a : Fin 3), k0_pay20 v1 (ix2 a ⟨l.val, by omega⟩) = (q l a : EReal) := fun l a => by
    pointwise [k0_pay20]; exact hq l a
  have e0 : ∀ a : Fin 3, k0_pay20 v1 (ix2 a 0) = (q 0 a : EReal) := hq2 0
  have e1 : ∀ a : Fin 3, k0_pay20 v1 (ix2 a 1) = (q 1 a : EReal) := hq2 1
  have e2 : ∀ a : Fin 3, k0_pay20 v1 (ix2 a 2) = (q 2 a : EReal) := hq2 2
  have hw : ∀ l : Fin 3, ((p 0 - q l 0) * (p 0 - q l 0) + (p 1 - q l 1) * (p 1 - q l 1) + (p 2 - q l 2) * (p 2 - q l 2)) = apart p (q l) := fun l => by
    unfold apart; rw [Fin.sum_univ_three]; ring
  unfold nearRest
  pointwise [k0_pay22]
  rw [show Ideal.ofBits FTy.f32 619091349#32 = _ from tiny_word]
  simp only [hp, hq2, e0, e1, e2, h0, h1, h2, ← EReal.coe_sub, ← EReal.coe_mul, ← EReal.coe_add, hw, weight_coe, ← coe_sum]
  unfold mean
  simp only [Fin.sum_univ_three, mul_comm]

end Cert.KernelIdeal.Near

end
-- ==== Proof.IdealBlocks.lean ====
/-
  The kernel's blocks at an index: which entry of an argument array each entry of a block is.
-/
module

public import proofs.«01_k».proof.Proof.IdealLayers
public import proofs.«01_k».proof.Proof.IdealNear
public import Idealize.ShloMosaic.Lib.Pipeline.ValueKit

@[expose] public section

set_option maxRecDepth 16384

noncomputable section

namespace Cert.KernelIdeal.Blocks

open Cert.KernelIdeal Cert.KernelIdeal.Gen Cert.KernelIdeal.Run
open Idealize.ShloMosaic Idealize.ShloMosaic.TcCoe Idealize.SL.Sem
open Idealize.ShloMosaic.Pipeline (Dat)

variable (m : (ℓ : Loc nD τ sig) → Buf (Elt Ideal) ℓ)

/-- Which block of its array each window holds at a grid point. -/
theorem idx : ∀ t : Fin cfg0.N, win0_0.index t = ![0, t.val / 2] ∧ win0_1.index t = ![t.val / 2, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![t.val, 0] :=
  (by decide +kernel : ∀ t : Fin grid0.N, _)

/-- The reciprocal the host computes of six times the cube of the gap between two knots is the scale of the splines. -/
theorem scale_words : Ideal.div 1
        (Ideal.ofBits FTy.f32 1086324736#32 *
              (Ideal.ofBits FTy.f32 3221225472#32 * Ideal.ofBits FTy.f32 1053609165#32 - 1 -
                (Ideal.ofBits FTy.f32 3225419776#32 * Ideal.ofBits FTy.f32 1053609165#32 - 1)) *
            (Ideal.ofBits FTy.f32 3221225472#32 * Ideal.ofBits FTy.f32 1053609165#32 - 1 -
              (Ideal.ofBits FTy.f32 3225419776#32 * Ideal.ofBits FTy.f32 1053609165#32 - 1)) *
          (Ideal.ofBits FTy.f32 3221225472#32 * Ideal.ofBits FTy.f32 1053609165#32 - 1 -
            (Ideal.ofBits FTy.f32 3225419776#32 * Ideal.ofBits FTy.f32 1053609165#32 - 1))) = Spline.scale := by
  have h6 : Ideal.ofBits FTy.f32 1086324736#32 = ((6 : ℝ) : EReal) := by
    simp [Ideal.ofBits, Ideal.ieee, -EReal.coe_mul]; norm_num
  have h2 : Ideal.ofBits FTy.f32 3221225472#32 = ((-2 : ℝ) : EReal) := by
    simp [Ideal.ofBits, Ideal.ieee, -EReal.coe_mul, -EReal.coe_neg]; norm_num
  have h3 : Ideal.ofBits FTy.f32 3225419776#32 = ((-3 : ℝ) : EReal) := by
    simp [Ideal.ofBits, Ideal.ieee, -EReal.coe_mul, -EReal.coe_neg]; norm_num
  have hs : Ideal.ofBits FTy.f32 1053609165#32 = (Spline.step : EReal) := Layers.step_word
  rw [h6, h2, h3, hs, ← EReal.coe_one]
  simp only [← EReal.coe_mul, ← EReal.coe_sub]
  have e : (-2 * Spline.step - 1 - (-3 * Spline.step - 1) : ℝ) = Spline.step := by ring
  have hp := Spline.step_pos
  rw [e, Blend.div_coe _ _ (by positivity)]
  rfl

/-- A block of the points' positions, transposed. -/
theorem pos_block (c : Dev nD) (t : Fin cfg0.N) (a : Fin 3) (l : Fin 512) (l' : Fin 4096) (hl : l'.val = 512 * (t.val / 2) + l.val) :
    iblk m c 0 t (ix2 a l) = m ((c : Thread nD τ).loc main_arg1) (ix2 l' a) := by
  blk_simp [iblk]
  entry_read
  pointwise
  blk_ext [idx t]

/-- A block of the points' features. -/
theorem x_block (c : Dev nD) (t : Fin cfg0.N) (l : Fin 512) (i : Fin 256) (l' : Fin 4096) (hl : l'.val = 512 * (t.val / 2) + l.val) :
    iblk m c 1 t (ix2 l i) = m ((c : Thread nD τ).loc main_arg0) (ix2 l' i) := by
  blk_ext [iblk, V, idx t]

/-- A tile of the queries' positions. -/
theorem query_block (c : Dev nD) (t : Fin cfg0.N) (r : Fin 1024) (a : Fin 3) (r' : Fin 16384) (hr : r'.val = 1024 * t.val + r.val) :
    iblk m c 2 t (ix2 r a) = m ((c : Thread nD τ).loc main_arg4) (ix2 r' a) := by
  blk_ext [iblk, V, idx t]

/-- A tile of the queries' own features. -/
theorem skip_block (c : Dev nD) (t : Fin cfg0.N) (r : Fin 1024) (i : Fin 128) (r' : Fin 16384) (hr : r'.val = 1024 * t.val + r.val) :
    iblk m c 3 t (ix2 r i) = m ((c : Thread nD τ).loc main_arg3) (ix2 r' i) := by
  blk_ext [iblk, V, idx t]

/-- The first base weights, transposed. -/
theorem base1_block (c : Dev nD) (t : Fin cfg0.N) (i : Fin 384) (n : Fin 256) :
    iblk m c 4 t (ix2 i n) = m ((c : Thread nD τ).loc main_arg6) (ix2 n i) := by
  blk_simp [iblk]
  entry_read
  pointwise
  blk_ext [idx t]

/-- The second base weights, transposed. -/
theorem base2_block (c : Dev nD) (t : Fin cfg0.N) (i : Fin 256) (n : Fin 128) :
    iblk m c 6 t (ix2 i n) = m ((c : Thread nD τ).loc main_arg8) (ix2 n i) := by
  blk_simp [iblk]
  entry_read
  pointwise
  blk_ext [idx t]

/-- The first stacked spline weights are one block. -/
theorem spline1_whole (c : Dev nD) (t : Fin cfg0.N) (q : Fin 3072) (n : Fin 256) :
    iblk m c 5 t (ix2 q n) = V m c main_v16 (ix2 q n) := by
  blk_ext [iblk, idx t]

/-- The first spline weights, stacked basis function by basis function and scaled. -/
theorem spline1_block (c : Dev nD) (t : Fin cfg0.N) (i : Fin 384) (k : Fin 8) (n : Fin 256) :
    (iblk m c 5 t (ix2 (finProdFinEquiv (k, i) : Fin (8 * 384)) n) : EReal)
      = HMul.hMul (α := EReal) (β := EReal) (m ((c : Thread nD τ).loc main_arg7) (ix3 n i k)) Spline.scale := by
  have hv : ((finProdFinEquiv (k, i) : Fin (8 * 384)) : ℕ) = i.val + 384 * k.val := rfl
  have hq : (finProdFinEquiv (k, i) : Fin (8 * 384)) = (⟨i.val + 384 * k.val, by omega⟩ : Fin 3072) := Fin.ext hv
  rw [hq, spline1_whole]
  entry_read
  pointwise
  rw [scale_words]
  have e1 : (i.val + 384 * k.val) % 384 = i.val := by omega
  have e2 : (i.val + 384 * k.val) / 384 = k.val := by omega
  congr 1
  refine congrArg (m _) ?_
  congr 1 <;> exact Fin.ext (by assumption)

/-- The second stacked spline weights are one block. -/
theorem spline2_whole (c : Dev nD) (t : Fin cfg0.N) (q : Fin 2048) (n : Fin 128) :
    iblk m c 7 t (ix2 q n) = V m c main_v32 (ix2 q n) := by
  blk_ext [iblk, idx t]

/-- The second spline weights, stacked basis function by basis function and scaled. -/
theorem spline2_block (c : Dev nD) (t : Fin cfg0.N) (i : Fin 256) (k : Fin 8) (n : Fin 128) :
    (iblk m c 7 t (ix2 (finProdFinEquiv (k, i) : Fin (8 * 256)) n) : EReal)
      = HMul.hMul (α := EReal) (β := EReal) (m ((c : Thread nD τ).loc main_arg9) (ix3 n i k)) Spline.scale := by
  have hv : ((finProdFinEquiv (k, i) : Fin (8 * 256)) : ℕ) = i.val + 256 * k.val := rfl
  have hq : (finProdFinEquiv (k, i) : Fin (8 * 256)) = (⟨i.val + 256 * k.val, by omega⟩ : Fin 2048) := Fin.ext hv
  rw [hq, spline2_whole]
  entry_read
  pointwise
  rw [scale_words]
  have e1 : (i.val + 256 * k.val) % 256 = i.val := by omega
  have e2 : (i.val + 256 * k.val) / 256 = k.val := by omega
  congr 1
  refine congrArg (m _) ?_
  congr 1 <;> exact Fin.ext (by assumption)

end Cert.KernelIdeal.Blocks

end
-- ==== Proof.IdealValue.lean ====
/-
  The kernel's result: each row of it is the two layers of the row the reference's interpolation gives.
-/
module

public import proofs.«01_k».proof.Proof.IdealBlocks

@[expose] public section

set_option maxRecDepth 16384

noncomputable section

namespace Cert.KernelIdeal.Final

open Cert.KernelIdeal Cert.KernelIdeal.Gen Cert.KernelIdeal.Run Cert.KernelIdeal.Blocks Cert.KernelIdeal.Layers
open Idealize.ShloMosaic Idealize.ShloMosaic.TcCoe Idealize.SL.Sem
open Idealize.ShloMosaic.Pipeline (Dat)
open Cert.Three Cert.Rounding Cert.Blend Cert.Kan

/-- The arguments the interpolation reads: positions in the unit cube and real features. -/
structure Args (m : (ℓ : Loc nD τ sig) → Buf (Elt Ideal) ℓ) (c : Dev nD) (q : Fin 4096 → Fin 3 → ℝ) (p : Fin 16384 → Fin 3 → ℝ)
    (x : Fin 4096 → Fin 256 → ℝ) : Prop where
  pos : ∀ l a, m ((c : Thread nD τ).loc main_arg1) (ix2 l a) = (q l a : EReal)
  query : ∀ r a, m ((c : Thread nD τ).loc main_arg4) (ix2 r a) = (p r a : EReal)
  feat : ∀ l i, m ((c : Thread nD τ).loc main_arg0) (ix2 l i) = (x l i : EReal)
  posUnit : ∀ l a, 0 ≤ q l a ∧ q l a ≤ 1
  queryUnit : ∀ r a, 0 ≤ p r a ∧ p r a ≤ 1

variable {m : (ℓ : Loc nD τ sig) → Buf (Elt Ideal) ℓ} {c : Dev nD} {q : Fin 4096 → Fin 3 → ℝ} {p : Fin 16384 → Fin 3 → ℝ}
  {x : Fin 4096 → Fin 256 → ℝ}

/-- The first two tiles take the first branch, the others the second. -/
theorem first_small : ∀ t : Fin cfg0.N, (first (grid0.coords t) = 1#1 ↔ t.val < 2) :=
  (by decide +kernel : ∀ t : Fin grid0.N, (first (grid0.coords t) = 1#1 ↔ t.val < 2))

/-- There are sixteen tiles. -/
theorem points (t : Fin cfg0.N) : t.val < 16 := t.isLt

/-- The tile's interpolated features. -/
theorem near_row (h : Args m c q p x) (t : Fin cfg0.N) (r : Fin 1024) (r' : Fin 16384) (hr : r'.val = 1024 * t.val + r.val) :
    ∃ σ : Fin 3 → Fin 4096, FirstThree (fun l => dist (p r') (r'.val / 2048) (q l) (batch l)) σ
      ∧ ∀ i : Fin 256, near (grid0.coords t) (iblk m c 0 t) (iblk m c 1 t) (iblk m c 2 t) (ix2 r i)
          = mean (fun j => x (σ j) i) (fun j => apart (p r') (q (σ j))) := by
  have ht := points t
  have hb : r'.val / 2048 = t.val / 2 := by omega
  by_cases hf : t.val < 2
  · have h0 : t.val / 2 = 0 := by omega
    obtain ⟨σ, hσ, e⟩ := Near.near0_apply (View.ld (iblk m c 2 t) rPs) (View.ld (iblk m c 0 t) rPt) (View.ld (iblk m c 1 t) rX) r
      (p r') (fun l => q (place 0 l)) (fun l => x (place 0 l))
      (fun a => by
        rw [← h.query r' a, ← query_block m c t r a r' hr]
        pointwise)
      (fun l a => by
        rw [← h.pos (place 0 l) a, ← pos_block m c t a l (place 0 l) (by rw [h0]; rfl)]
        pointwise)
      (fun l i => by
        rw [← h.feat (place 0 l) i, ← x_block m c t l i (place 0 l) (by rw [h0]; rfl)]
        pointwise)
    refine ⟨fun a => place 0 (σ a), ?_, fun i => ?_⟩
    · rw [hb, h0]
      exact first_zero (p r') q (h.queryUnit r') h.posUnit σ hσ
    · unfold near
      rw [if_pos ((first_small t).mpr hf)]
      exact e i
  · have hB : t.val / 2 < 8 := by omega
    have hpl : ∀ l : Fin 512, (place ⟨t.val / 2, hB⟩ l).val = 512 * (t.val / 2) + l.val := fun l => rfl
    refine ⟨fun a => place ⟨t.val / 2, hB⟩ (a.castLE (by omega)), ?_, fun i => ?_⟩
    · rw [hb]
      exact first_rest (p r') q (h.queryUnit r') h.posUnit ⟨t.val / 2, hB⟩ (by show 1 ≤ t.val / 2; omega)
    · unfold near
      rw [if_neg (fun e => hf ((first_small t).mp e))]
      refine Near.nearRest_apply _ _ _ _ _ r i (p r') (fun j => q (place ⟨t.val / 2, hB⟩ (j.castLE (by omega))))
        (fun j => x (place ⟨t.val / 2, hB⟩ (j.castLE (by omega))) i) (fun a => ?_) (fun l a => ?_) ?_ ?_ ?_
      · rw [← h.query r' a, ← query_block m c t r a r' hr]
        pointwise
      · rw [← h.pos _ a, ← pos_block m c t a (l.castLE (by omega)) _ (hpl _)]
        pointwise
        rfl
      · rw [← h.feat _ i, ← x_block m c t _ i _ (hpl _)]
        pointwise
        rfl
      · rw [← h.feat _ i, ← x_block m c t _ i _ (hpl _)]
        pointwise
        rfl
      · rw [← h.feat _ i, ← x_block m c t _ i _ (hpl _)]
        pointwise
        rfl

/-- A row of the tile. -/
theorem tile (h : Args m c q p x) (t : Fin cfg0.N) (r : Fin 1024) (r' : Fin 16384) (hr : r'.val = 1024 * t.val + r.val) :
    ∃ σ : Fin 3 → Fin 4096, FirstThree (fun l => dist (p r') (r'.val / 2048) (q l) (batch l)) σ
      ∧ ∀ n : Fin 128, outBlk (grid0.coords t) (iblk m c 0 t) (iblk m c 1 t) (iblk m c 2 t) (iblk m c 3 t) (iblk m c 4 t) (iblk m c 5 t)
          (iblk m c 6 t) (iblk m c 7 t) (ix2 r n)
        = layer (fun n' : Fin 256 => layer (fun i : Fin 384 =>
              if hi : i.val < 256 then mean (fun j => x (σ j) ⟨i.val, hi⟩) (fun j => apart (p r') (q (σ j)))
              else m ((c : Thread nD τ).loc main_arg3) (ix2 r' ⟨i.val - 256, by omega⟩))
            (fun i => m ((c : Thread nD τ).loc main_arg6) (ix2 n' i)) (fun i k => m ((c : Thread nD τ).loc main_arg7) (ix3 n' i k)))
          (fun i => m ((c : Thread nD τ).loc main_arg8) (ix2 n i)) (fun i k => m ((c : Thread nD τ).loc main_arg9) (ix3 n i k)) := by
  obtain ⟨σ, hσ, e⟩ := near_row h t r r' hr
  refine ⟨σ, hσ, fun n => ?_⟩
  unfold outBlk
  frame_out
  rw [layers_eq, lay2_apply _ _ _ (fun i k => m ((c : Thread nD τ).loc main_arg9) (ix3 n i k)) r n (fun i k => spline2_block m c t i k n)]
  congr 1
  · funext n'
    rw [lay1_apply _ _ _ (fun i k => m ((c : Thread nD τ).loc main_arg7) (ix3 n' i k)) r n' (fun i k => spline1_block m c t i k n')]
    congr 1
    · funext i
      pointwise [k0_pay23]
      split_ifs with hi
      · exact e _
      all_goals exact skip_block m c t r _ r' hr
    · funext i
      exact base1_block m c t i n'
  · funext i
    exact base2_block m c t i n

/-- The result array is any array each of whose rows is the two layers of the interpolation's row. -/
theorem final (h : Args m c q p x) (G : Buf (Elt Ideal) ((c : Thread nD τ).loc main_v33))
    (hG : ∀ (r' : Fin 16384) (σ : Fin 3 → Fin 4096), FirstThree (fun l => dist (p r') (r'.val / 2048) (q l) (batch l)) σ →
      ∀ n : Fin 128, G (ix2 r' n)
        = layer (fun n' : Fin 256 => layer (fun i : Fin 384 =>
              if hi : i.val < 256 then mean (fun j => x (σ j) ⟨i.val, hi⟩) (fun j => apart (p r') (q (σ j)))
              else m ((c : Thread nD τ).loc main_arg3) (ix2 r' ⟨i.val - 256, by omega⟩))
            (fun i => m ((c : Thread nD τ).loc main_arg6) (ix2 n' i)) (fun i k => m ((c : Thread nD τ).loc main_arg7) (ix3 n' i k)))
          (fun i => m ((c : Thread nD τ).loc main_arg8) (ix2 n i)) (fun i k => m ((c : Thread nD τ).loc main_arg9) (ix3 n i k))) :
    (dats m 0 c).arrAt 8 (cfgs 0).N = G := by
  refine (dats m 0 c).arrAt_eq_of_covers 8 G (by decide +kernel) fun t hf y => ?_
  have ht := points t
  have y0 : (y 0).val < 1024 := (y 0).isLt
  obtain ⟨σ, hσ, e⟩ := tile h t (y 0) ⟨1024 * t.val + (y 0).val, by omega⟩ rfl
  have hy : y = ix2 (y 0) (y 1) := by
    funext a
    match a with
    | ⟨0, _⟩ => rfl
    | ⟨1, _⟩ => rfl
  have he : ((cfg0.win 8).blk t).view.emb y = (ix2 (⟨1024 * t.val + (y 0).val, by omega⟩ : Fin 16384) (y 1 : Fin 128) : S16384x128.Idx) := by
    blk_ext [idx t]
  blk_simp
  rw [after0_8]
  refine Eq.trans (congrArg (outBlk (grid0.coords t) (iblk m c 0 t) (iblk m c 1 t) (iblk m c 2 t) (iblk m c 3 t) (iblk m c 4 t) (iblk m c 5 t)
        (iblk m c 6 t) (iblk m c 7 t)) hy) ((e (y 1)).trans ?_)
  exact ((congrArg G he).trans (hG _ σ hσ (y 1))).symm

end Cert.KernelIdeal.Final

end
-- ==== Proof.RefLayers.lean ====
/-
  The reference's two layers read at an index over the extended reals: each is `Kan.layer` of a row.
-/
module

public import proofs.«01_k».proof.Proof.Kan
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Layers

open Cert.ReferenceIdeal Cert.ReferenceIdeal.Gen Cert.ReferenceIdeal.Value
open Idealize.ShloMosaic Cert.Kan Cert.Spline

variable (V0 : Valuation τ sig (Elt Ideal))

/-- The word of the knots' distance. -/
theorem step_word : Ideal.ofBits .f32 0x3ECCCCCD#32 = (step : EReal) := by
  unfold step
  simp [Ideal.ofBits, Ideal.ieee, -EReal.coe_mul]; norm_num

/-- The word of minus three. -/
theorem three_word : Ideal.ofBits .f32 0xC0400000#32 = ((-3 : ℝ) : EReal) := by
  simp [Ideal.ofBits, Ideal.ieee, -EReal.coe_mul, -EReal.coe_neg]; norm_num

/-- A small natural number as a signed word and back. -/
theorem small_toInt (k : Fin 12) : (BitVec.ofNat 32 k.val).toInt = (k.val : ℤ) := by
  revert k; decide

/-- The knots. -/
theorem v161_apply (k : Fin 12) : res_main_v161 V0 (ix1 k) = (knot k.val : EReal) := by
  pointwise [res_main_v161]
  rw [step_word, three_word]
  show (((-3 : ℝ) : EReal) + (((BitVec.ofNat 32 k.val).toInt : ℝ) : EReal)) * (step : EReal) - ((1 : ℝ) : EReal) = _
  rw [small_toInt, ← EReal.coe_add, ← EReal.coe_mul, ← EReal.coe_sub]
  congr 1
  unfold knot
  push_cast; ring

/-- The product of two truth values as a number. -/
theorem both (p q : Prop) [Decidable p] [Decidable q] :
    (FloatOps.uitofp (F := Ideal) FTy.f32 (IntOp.andi (BitVec.ofBool (decide p)) (BitVec.ofBool (decide q))) : EReal)
      = if p ∧ q then 1 else 0 := by
  by_cases hp : p <;> by_cases hq : q <;> simp [hp, hq, IntOp.andi, FloatOps.uitofp]

/-- The first layer: a row's entry, with a unit axis for the basis functions. -/
theorem v165_apply (r : Fin 16384) (i : Fin 384) (u : Fin 1) :
    res_main_v165 V0 (ix3 r i u) = res_main_v154 V0 (ix2 r i) := by
  pointwise [res_main_v165]

/-- The first layer: the indicators of the eleven intervals. -/
theorem v177_apply (r : Fin 16384) (i : Fin 384) (k : Fin 11) :
    res_main_v177 V0 (ix3 r i k) = b0 (res_main_v154 V0 (ix2 r i)) k.val := by
  pointwise [res_main_v177]
  simp only [v161_apply, v165_apply, Nat.add_comm 1 k.val]
  rw [both]; rfl

/-- The first layer: the recurrence to degree one. -/
theorem v204_apply (r : Fin 16384) (i : Fin 384) (k : Fin 10) :
    res_main_v204 V0 (ix3 r i k)
      = next 1 (b0 (res_main_v154 V0 (ix2 r i))) (res_main_v154 V0 (ix2 r i)) k.val := by
  pointwise [res_main_v204]
  simp only [v161_apply, v165_apply, v177_apply, Nat.add_comm _ k.val]
  rfl

/-- The first layer: the recurrence to degree two. -/
theorem v231_apply (r : Fin 16384) (i : Fin 384) (k : Fin 9) :
    res_main_v231 V0 (ix3 r i k)
      = next 2 (next 1 (b0 (res_main_v154 V0 (ix2 r i))) (res_main_v154 V0 (ix2 r i))) (res_main_v154 V0 (ix2 r i)) k.val := by
  pointwise [res_main_v231]
  simp only [v161_apply, v165_apply, v204_apply, Nat.add_comm _ k.val]
  rfl

/-- The first layer of a row. -/
theorem v260_apply (r : Fin 16384) (n : Fin 256) :
    res_main_v260 V0 (ix2 r n)
      = layer (fun i => res_main_v154 V0 (ix2 r i)) (fun i => V0 (Proc.devRef .tc main_arg6) (ix2 n i))
          (fun i k => V0 (Proc.devRef .tc main_arg7) (ix3 n i k)) := by
  pointwise [res_main_v260]
  simp only [v161_apply, v165_apply, v231_apply, Nat.add_comm _ (Fin.val _)]
  rfl
/-- The second layer: a row's entry, with a unit axis for the basis functions. -/
theorem v264_apply (r : Fin 16384) (i : Fin 256) (u : Fin 1) :
    res_main_v264 V0 (ix3 r i u) = res_main_v260 V0 (ix2 r i) := by
  pointwise [res_main_v264]

/-- The second layer: the indicators of the eleven intervals. -/
theorem v276_apply (r : Fin 16384) (i : Fin 256) (k : Fin 11) :
    res_main_v276 V0 (ix3 r i k) = b0 (res_main_v260 V0 (ix2 r i)) k.val := by
  pointwise [res_main_v276]
  simp only [v161_apply, v264_apply, Nat.add_comm 1 k.val]
  rw [both]; rfl

/-- The second layer: the recurrence to degree one. -/
theorem v303_apply (r : Fin 16384) (i : Fin 256) (k : Fin 10) :
    res_main_v303 V0 (ix3 r i k)
      = next 1 (b0 (res_main_v260 V0 (ix2 r i))) (res_main_v260 V0 (ix2 r i)) k.val := by
  pointwise [res_main_v303]
  simp only [v161_apply, v264_apply, v276_apply, Nat.add_comm _ k.val]
  rfl

/-- The second layer: the recurrence to degree two. -/
theorem v330_apply (r : Fin 16384) (i : Fin 256) (k : Fin 9) :
    res_main_v330 V0 (ix3 r i k)
      = next 2 (next 1 (b0 (res_main_v260 V0 (ix2 r i))) (res_main_v260 V0 (ix2 r i))) (res_main_v260 V0 (ix2 r i)) k.val := by
  pointwise [res_main_v330]
  simp only [v161_apply, v264_apply, v303_apply, Nat.add_comm _ k.val]
  rfl

/-- The array the reference returns first. -/
def result {F : FTy → Type} [FloatOps F] (V0 : Valuation τ sig (Elt F)) : FVec F S16384x128 .f32 :=
  addf (Host.dotGeneral dot_S16384x256_S256x128_S16384x128_1_0_0_1_n_n none (mulf (res_main_v260 V0) (Host.divf (broadcastInDim S16384x256 ![] bcast_S_S16384x256 (constant S_ .f32 0x3F800000#32)) (addf (broadcastInDim S16384x256 ![] bcast_S_S16384x256 (constant S_ .f32 0x3F800000#32)) (Host.exp (Host.negf (res_main_v260 V0)))))) (transpose S256x128 [1, 0] (V0 (Proc.devRef .tc main_arg8)) transposes_S128x256_S256x128_1_0)) (Host.dotGeneral dot_S16384x256x8_S128x256x8_S16384x128_12_12_0_0_n_n none (addf (mulf (Host.divf (subf (broadcastInDim S16384x256x8 ![0, 1, 2] bcast_S16384x256x1_S16384x256x8_0_1_2 (res_main_v264 V0)) (broadcastInDim S16384x256x8 ![0, 1, 2] bcast_S1x1x8_S16384x256x8_0_1_2 (broadcastInDim S1x1x8 ![2] bcast_S8_S1x1x8_2 (extractStridedSlice S8 ![0] (res_main_v161 V0) slices_S12_S8_0)))) (broadcastInDim S16384x256x8 ![0, 1, 2] bcast_S1x1x8_S16384x256x8_0_1_2 (broadcastInDim S1x1x8 ![2] bcast_S8_S1x1x8_2 (subf (extractStridedSlice S8 ![3] (res_main_v161 V0) slices_S12_S8_3) (extractStridedSlice S8 ![0] (res_main_v161 V0) slices_S12_S8_0))))) (extractStridedSlice S16384x256x8 ![0, 0, 0] (res_main_v330 V0) slices_S16384x256x9_S16384x256x8_0_0_0)) (mulf (Host.divf (subf (broadcastInDim S16384x256x8 ![0, 1, 2] bcast_S1x1x8_S16384x256x8_0_1_2 (broadcastInDim S1x1x8 ![2] bcast_S8_S1x1x8_2 (extractStridedSlice S8 ![4] (res_main_v161 V0) slices_S12_S8_4))) (broadcastInDim S16384x256x8 ![0, 1, 2] bcast_S16384x256x1_S16384x256x8_0_1_2 (res_main_v264 V0))) (broadcastInDim S16384x256x8 ![0, 1, 2] bcast_S1x1x8_S16384x256x8_0_1_2 (broadcastInDim S1x1x8 ![2] bcast_S8_S1x1x8_2 (subf (extractStridedSlice S8 ![4] (res_main_v161 V0) slices_S12_S8_4) (extractStridedSlice S8 ![1] (res_main_v161 V0) slices_S12_S8_1))))) (extractStridedSlice S16384x256x8 ![0, 0, 1] (res_main_v330 V0) slices_S16384x256x9_S16384x256x8_0_0_1))) (V0 (Proc.devRef .tc main_arg9)))

/-- The second layer of a row, which is what the reference returns. -/
theorem result_apply (r : Fin 16384) (n : Fin 128) :
    result V0 (ix2 r n)
      = layer (fun i => res_main_v260 V0 (ix2 r i)) (fun i => V0 (Proc.devRef .tc main_arg8) (ix2 n i))
          (fun i k => V0 (Proc.devRef .tc main_arg9) (ix3 n i k)) := by
  pointwise [result]
  simp only [v161_apply, v264_apply, v330_apply, Nat.add_comm _ (Fin.val _)]
  rfl

end Cert.ReferenceIdeal.Layers

end
-- ==== Proof.RefGather.lean ====
/-
  Rows of a table taken by a table of row numbers.
-/
module

public import Idealize.ShloMosaic.Lib.ValueIdxCore

@[expose] public section

noncomputable section

namespace Cert.RefGather

open Idealize.ShloMosaic Idealize.ShloMosaic.ValueIdx

/-- Taking rows of an `N` by `C` table at a `B` by `K` table of row numbers. -/
abbrev rowDims (N C B K : ℕ)
    (wf : GatherDims.WF ⟨2, ![N, C]⟩ ⟨3, ![B, K, 1]⟩ ⟨3, ![B, K, C]⟩ [2] [0] [] [0] [] 2 ![1, C]) :
    GatherDims ⟨2, ![N, C]⟩ ⟨3, ![B, K, 1]⟩ ⟨3, ![B, K, C]⟩ where
  offsetDims := [2]
  collapsedSliceDims := [0]
  operandBatchingDims := []
  startIndicesBatchingDims := []
  startIndexMap := [0]
  indexVectorDim := 2
  sliceSizes := ![1, C]
  wf := wf

/-- A row whose number is in range is the row taken. -/
theorem gather_rows {α : Type} {N C B K : ℕ}
    (wf : GatherDims.WF ⟨2, ![N, C]⟩ ⟨3, ![B, K, 1]⟩ ⟨3, ![B, K, C]⟩ [2] [0] [] [0] [] 2 ![1, C])
    (x : (⟨2, ![N, C]⟩ : Shape).Idx → α) (idx : IVec ⟨3, ![B, K, 1]⟩ 32) (r : Fin B) (j : Fin K) (c : Fin C) (l : Fin N)
    (h : (idx (ix3 r j 0)).toInt.toNat = l.val) :
    Host.gather (rowDims N C B K wf) x idx (ix3 r j c) = x (ix2 l c) := by
  have hs : (rowDims N C B K wf).siIdx (ix3 r j c) ⟨List.idxOf (0 : Fin 2) (rowDims N C B K wf).startIndexMap,
      List.idxOf_lt_length_iff.2 (List.mem_singleton.mpr rfl)⟩ = ix3 r j 0 := by
    funext b
    refine Fin.ext ?_
    match b with
    | ⟨0, _⟩ => rfl
    | ⟨1, _⟩ => rfl
    | ⟨2, _⟩ => rfl
  unfold Host.gather
  refine congrArg x (funext fun a => Fin.ext ?_)
  show (rowDims N C B K wf).start (ix3 r j c) idx a + (rowDims N C B K wf).batchCoord (ix3 r j c) a
    + (rowDims N C B K wf).offCoord (ix3 r j c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h' => ((GatherDims.mem_sKept _ _).mp h').1 (List.mem_singleton.mpr rfl))]
    unfold GatherDims.start
    rw [dif_pos (show (0 : Fin 2) ∈ (rowDims N C B K wf).startIndexMap from List.mem_singleton.mpr rfl)]
    have e : ∀ k, k = (ix3 r j 0 : (⟨3, ![B, K, 1]⟩ : Shape).Idx) → min (idx k).toInt.toNat (N - 1) + 0 + 0 = l.val := by
      rintro k rfl
      rw [h]
      have := l.isLt
      omega
    exact e _ hs
  · unfold GatherDims.start
    rw [dif_neg (by simp)]
    unfold GatherDims.offCoord
    rw [dif_pos ((GatherDims.mem_sKept _ _).mpr ⟨by simp, List.not_mem_nil⟩)]
    simp only [Nat.zero_add]
    rfl

end Cert.RefGather

end
-- ==== Proof.RefNear.lean ====
/-
  The reference's interpolation read at an index over the extended reals: its distances are `Rounding.dist`, so its three
  points are the first three in that distance, and a row is the weighted mean of theirs beside the query's own features.
-/
module

public import proofs.«01_k».proof.Proof.RefLayers
public import proofs.«01_k».proof.Proof.RefGather
public import proofs.«01_k».proof.Proof.Rounding
public import proofs.«01_k».proof.Proof.Blend
public import Idealize.ShloMosaic.Lib.StableHlo.Predicate

@[expose] public section

set_option maxRecDepth 16384

noncomputable section

namespace Cert.ReferenceIdeal.Near

open Cert.ReferenceIdeal Cert.ReferenceIdeal.Gen Cert.ReferenceIdeal.Value
open Idealize.ShloMosaic Cert.Three Cert.Rounding Cert.Blend

/-- The arguments the interpolation reads: real positions and features, and the points laid out batch by batch. -/
structure Args (V0 : Valuation τ sig (Elt Ideal)) (q : Fin 4096 → Fin 3 → ℝ) (p : Fin 16384 → Fin 3 → ℝ)
    (x : Fin 4096 → Fin 256 → ℝ) : Prop where
  pos : ∀ l a, V0 (Proc.devRef .tc main_arg1) (ix2 l a) = (q l a : EReal)
  query : ∀ r a, V0 (Proc.devRef .tc main_arg4) (ix2 r a) = (p r a : EReal)
  posBatch : ∀ l : Fin 4096, V0 (Proc.devRef .tc main_arg2) (ix1 l) = BitVec.ofNat 32 (batch l)
  queryBatch : ∀ r : Fin 16384, V0 (Proc.devRef .tc main_arg5) (ix1 r) = BitVec.ofNat 32 (r.val / 2048)
  feat : ∀ l c, V0 (Proc.devRef .tc main_arg0) (ix2 l c) = (x l c : EReal)

variable {V0 : Valuation τ sig (Elt Ideal)} {q : Fin 4096 → Fin 3 → ℝ} {p : Fin 16384 → Fin 3 → ℝ} {x : Fin 4096 → Fin 256 → ℝ}

/-- A position with its batch number, times ten thousand, as a fourth coordinate. -/
def four (p : Fin 3 → ℝ) (b : ℕ) (a : Fin 4) : ℝ := if h : a.val < 3 then p ⟨a.val, h⟩ else b * 10000

/-- A small number as a signed word and back. -/
theorem word_real (b : ℕ) (hb : b < 8) : (FloatOps.sitofp (F := Ideal) FTy.f32 (BitVec.ofNat 32 b) : EReal) = ((b : ℝ) : EReal) := by
  show ((((BitVec.ofNat 32 b).toInt : ℤ) : ℝ) : EReal) = _
  have e : (BitVec.ofNat 32 b).toInt = (b : ℤ) := by interval_cases b <;> decide
  rw [e]; push_cast; rfl

/-- The word of ten thousand. -/
theorem tenk_word : Ideal.ofBits FTy.f32 1176256512#32 = ((10000 : ℝ) : EReal) := by
  simp [Ideal.ofBits, Ideal.ieee, -EReal.coe_mul]; norm_num

/-- The points' positions with their batches. -/
theorem v4_apply (h : Args V0 q p x) (l : Fin 4096) (a : Fin 4) : res_main_v4 V0 (ix2 l a) = (four (q l) (batch l) a : EReal) := by
  pointwise [res_main_v4]
  unfold four
  split_ifs with ha
  · exact h.pos l _
  · rw [h.posBatch, word_real _ (by unfold batch; omega), tenk_word, ← EReal.coe_mul]

/-- The queries' positions with their batches. -/
theorem v9_apply (h : Args V0 q p x) (r : Fin 16384) (a : Fin 4) : res_main_v9 V0 (ix2 r a) = (four (p r) (r.val / 2048) a : EReal) := by
  pointwise [res_main_v9]
  unfold four
  split_ifs with ha
  · exact h.query r _
  · rw [h.queryBatch, word_real _ (by omega), tenk_word, ← EReal.coe_mul]

/-- The product of two positions with their batches. -/
theorem four_sum (p q : Fin 3 → ℝ) (b b' : ℕ) :
    ∑ a : Fin 4, (four p b a : EReal) * (four q b' a : EReal) = ((∑ a, p a * q a + 100000000 * b * b' : ℝ) : EReal) := by
  simp only [← EReal.coe_mul]
  rw [← coe_sum]
  refine congrArg Real.toEReal ?_
  rw [Fin.sum_univ_four, Fin.sum_univ_three]
  simp [four]
  ring

/-- The points' squared lengths. -/
theorem v11_apply (h : Args V0 q p x) (l : Fin 4096) :
    res_main_v11 V0 (ix1 l) = ((∑ a, q l a * q l a + 100000000 * batch l * batch l : ℝ) : EReal) := by
  pointwise [res_main_v11]
  simp only [v4_apply h]
  exact four_sum _ _ _ _

/-- The queries' squared lengths. -/
theorem v46_apply (h : Args V0 q p x) (r : Fin 16384) :
    res_main_v46 V0 (ix1 r) = ((∑ a, p r a * p r a + 100000000 * (r.val / 2048 : ℕ) * (r.val / 2048 : ℕ) : ℝ) : EReal) := by
  pointwise [res_main_v46]
  simp only [v9_apply h]
  exact four_sum _ _ _ _

/-- The products of a query and a point. -/
theorem v82_apply (h : Args V0 q p x) (r : Fin 16384) (l : Fin 4096) :
    res_main_v82 V0 (ix2 r l) = ((∑ a, p r a * q l a + 100000000 * (r.val / 2048 : ℕ) * batch l : ℝ) : EReal) := by
  pointwise [res_main_v82]
  simp only [v4_apply h, v9_apply h]
  exact four_sum _ _ _ _

/-- The word of 4294967296. -/
theorem word_4294967296 : Ideal.ofBits FTy.f32 1333788672#32 = ((4294967296 : ℝ) : EReal) := by
  simp [Ideal.ofBits, Ideal.ieee, -EReal.coe_mul]; norm_num
/-- The word of 2147483648. -/
theorem word_2147483648 : Ideal.ofBits FTy.f32 1325400064#32 = ((2147483648 : ℝ) : EReal) := by
  simp [Ideal.ofBits, Ideal.ieee, -EReal.coe_mul]; norm_num
/-- The word of 1073741824. -/
theorem word_1073741824 : Ideal.ofBits FTy.f32 1317011456#32 = ((1073741824 : ℝ) : EReal) := by
  simp [Ideal.ofBits, Ideal.ieee, -EReal.coe_mul]; norm_num
/-- The word of 536870912. -/
theorem word_536870912 : Ideal.ofBits FTy.f32 1308622848#32 = ((536870912 : ℝ) : EReal) := by
  simp [Ideal.ofBits, Ideal.ieee, -EReal.coe_mul]; norm_num
/-- The word of 268435456. -/
theorem word_268435456 : Ideal.ofBits FTy.f32 1300234240#32 = ((268435456 : ℝ) : EReal) := by
  simp [Ideal.ofBits, Ideal.ieee, -EReal.coe_mul]; norm_num
/-- The word of 134217728. -/
theorem word_134217728 : Ideal.ofBits FTy.f32 1291845632#32 = ((134217728 : ℝ) : EReal) := by
  simp [Ideal.ofBits, Ideal.ieee, -EReal.coe_mul]; norm_num
/-- The word of 67108864. -/
theorem word_67108864 : Ideal.ofBits FTy.f32 1283457024#32 = ((67108864 : ℝ) : EReal) := by
  simp [Ideal.ofBits, Ideal.ieee, -EReal.coe_mul]; norm_num
/-- The word of 33554432. -/
theorem word_33554432 : Ideal.ofBits FTy.f32 1275068416#32 = ((33554432 : ℝ) : EReal) := by
  simp [Ideal.ofBits, Ideal.ieee, -EReal.coe_mul]; norm_num
/-- The word of 512. -/
theorem word_512 : Ideal.ofBits FTy.f32 1140850688#32 = ((512 : ℝ) : EReal) := by
  simp [Ideal.ofBits, Ideal.ieee, -EReal.coe_mul]; norm_num
/-- The word of 256. -/
theorem word_256 : Ideal.ofBits FTy.f32 1132462080#32 = ((256 : ℝ) : EReal) := by
  simp [Ideal.ofBits, Ideal.ieee, -EReal.coe_mul]; norm_num
/-- The word of 128. -/
theorem word_128 : Ideal.ofBits FTy.f32 1124073472#32 = ((128 : ℝ) : EReal) := by
  simp [Ideal.ofBits, Ideal.ieee, -EReal.coe_mul]; norm_num
/-- The word of 64. -/
theorem word_64 : Ideal.ofBits FTy.f32 1115684864#32 = ((64 : ℝ) : EReal) := by
  simp [Ideal.ofBits, Ideal.ieee, -EReal.coe_mul]; norm_num
/-- The word of 32. -/
theorem word_32 : Ideal.ofBits FTy.f32 1107296256#32 = ((32 : ℝ) : EReal) := by
  simp [Ideal.ofBits, Ideal.ieee, -EReal.coe_mul]; norm_num
/-- The word of 16. -/
theorem word_16 : Ideal.ofBits FTy.f32 1098907648#32 = ((16 : ℝ) : EReal) := by
  simp [Ideal.ofBits, Ideal.ieee, -EReal.coe_mul]; norm_num
/-- The word of 8. -/
theorem word_8 : Ideal.ofBits FTy.f32 1090519040#32 = ((8 : ℝ) : EReal) := by
  simp [Ideal.ofBits, Ideal.ieee, -EReal.coe_mul]; norm_num
/-- The word of 4. -/
theorem word_4 : Ideal.ofBits FTy.f32 1082130432#32 = ((4 : ℝ) : EReal) := by
  simp [Ideal.ofBits, Ideal.ieee, -EReal.coe_mul]; norm_num
/-- The word of 2. -/
theorem word_2 : Ideal.ofBits FTy.f32 1073741824#32 = ((2 : ℝ) : EReal) := by
  simp [Ideal.ofBits, Ideal.ieee, -EReal.coe_mul]; norm_num

/-- The chain of selects is the spacing. -/
theorem chain (z : EReal) (v : ℝ) (hz : z = (v : EReal)) :
    (if Ideal.ofBits FTy.f32 1333788672#32 ≤ z then Ideal.ofBits FTy.f32 1140850688#32
      else if Ideal.ofBits FTy.f32 1325400064#32 ≤ z then Ideal.ofBits FTy.f32 1132462080#32
      else if Ideal.ofBits FTy.f32 1317011456#32 ≤ z then Ideal.ofBits FTy.f32 1124073472#32
      else if Ideal.ofBits FTy.f32 1308622848#32 ≤ z then Ideal.ofBits FTy.f32 1115684864#32
      else if Ideal.ofBits FTy.f32 1300234240#32 ≤ z then Ideal.ofBits FTy.f32 1107296256#32
      else if Ideal.ofBits FTy.f32 1291845632#32 ≤ z then Ideal.ofBits FTy.f32 1098907648#32
      else if Ideal.ofBits FTy.f32 1283457024#32 ≤ z then Ideal.ofBits FTy.f32 1090519040#32
      else if Ideal.ofBits FTy.f32 1275068416#32 ≤ z then Ideal.ofBits FTy.f32 1082130432#32
      else Ideal.ofBits FTy.f32 1073741824#32)
      = (spacing v : EReal) := by
  subst hz
  simp only [word_4294967296, word_2147483648, word_1073741824, word_536870912, word_268435456, word_134217728, word_67108864, word_33554432, word_512, word_256, word_128, word_64, word_32, word_16, word_8, word_4, word_2, EReal.coe_le_coe_iff]
  unfold spacing
  split_ifs <;> rfl

/-- The spacing at a point's squared length. -/
theorem v36_apply (l : Fin 4096) (v : ℝ) (hv : res_main_v11 V0 (ix1 l) = (v : EReal)) :
    res_main_v36 V0 (ix1 l) = (spacing v : EReal) := by
  pointwise [res_main_v36]
  exact chain _ _ hv

/-- The spacing at a query's squared length. -/
theorem v71_apply (r : Fin 16384) (v : ℝ) (hv : res_main_v46 V0 (ix1 r) = (v : EReal)) :
    res_main_v71 V0 (ix1 r) = (spacing v : EReal) := by
  pointwise [res_main_v71]
  exact chain _ _ hv

/-- The spacing at a product. -/
theorem v107_apply (r : Fin 16384) (l : Fin 4096) (v : ℝ) (hv : res_main_v82 V0 (ix2 r l) = (v : EReal)) :
    res_main_v107 V0 (ix2 r l) = (spacing v : EReal) := by
  pointwise [res_main_v107]
  exact chain _ _ hv

/-- The word of 16777216. -/
theorem word_16777216 : Ideal.ofBits FTy.f32 1266679808#32 = ((16777216 : ℝ) : EReal) := by
  simp [Ideal.ofBits, Ideal.ieee, -EReal.coe_mul]; norm_num
/-- The word of one half. -/
theorem word_half : Ideal.ofBits FTy.f32 1056964608#32 = ((1 / 2 : ℝ) : EReal) := by
  simp [Ideal.ofBits, Ideal.ieee, -EReal.coe_mul]; norm_num

/-- The rounding of a number. -/
theorem rounded (z w : EReal) (v : ℝ) (hz : z = (v : EReal)) (hw : w = (spacing v : EReal)) :
    (if z < Ideal.ofBits FTy.f32 1266679808#32 then z
      else Ideal.liftRound Int.floor (Ideal.div z w + Ideal.ofBits FTy.f32 1056964608#32) * w) = (Rounding.round v : EReal) := by
  subst hz hw
  rw [word_16777216, word_half, div_coe _ _ (spacing_pos v).ne', ← EReal.coe_add]
  simp only [EReal.coe_lt_coe_iff]
  unfold Rounding.round
  split_ifs
  · rfl
  · exact (EReal.coe_mul _ _).symm

/-- The sort's key: the distance, negated. -/
theorem v123_apply (h : Args V0 q p x) (r : Fin 16384) (l : Fin 4096) :
    res_main_v123 V0 (ix2 r l) = ((-dist (p r) (r.val / 2048) (q l) (batch l) : ℝ) : EReal) := by
  have h1 := rounded _ _ _ (v46_apply h r) (v71_apply r _ (v46_apply h r))
  have h2 := rounded _ _ _ (v82_apply h r l) (v107_apply r l _ (v82_apply h r l))
  have h3 := rounded _ _ _ (v11_apply h l) (v36_apply l _ (v11_apply h l))
  pointwise [res_main_v123]
  rw [h1, h2, h3, word_2, ← EReal.coe_mul, ← EReal.coe_sub, ← EReal.coe_add, ← EReal.coe_neg]
  rfl

/-- Along the second axis. -/
theorem along_one (i : S16384x4096.Idx) (k : Fin 4096) : i.along 1 k = ix2 (i 0) k := by
  funext a
  match a with
  | ⟨0, _⟩ => rfl
  | ⟨1, _⟩ => rfl

/-- The indices are the sorted positions. -/
theorem indices_sorted (r : Fin 16384) (j : Fin 3) :
    res_main_indices V0 (ix2 r j)
      = BitVec.ofNat 32 (sortedFrom (fun k k' : Fin 4096 => FloatOps.cmpfTotal (F := Ideal) (φ := .f32) .gt (res_main_v123 V0 (ix2 r k)) (res_main_v123 V0 (ix2 r k')) == 1#1)
          (j.castLE (by omega))).val := by
  have e : ∀ i : S16384x4096.Idx, i 0 = r → i 1 = (j.castLE (by omega) : Fin 4096) →
      (Host.sort2 S16384x4096 1 (fun l r : Ideal .f32 × BitVec 32 => FloatOps.cmpfTotal .gt l.1 r.1) (res_main_v123 V0)
        (fun i => if hd : 1 < S16384x4096.rank then iotaInDim S16384x4096 32 ⟨1, hd⟩ i else 0#32)).2 i
      = BitVec.ofNat 32 (sortedFrom (fun k k' : Fin 4096 => FloatOps.cmpfTotal (F := Ideal) (φ := .f32) .gt (res_main_v123 V0 (ix2 r k)) (res_main_v123 V0 (ix2 r k')) == 1#1)
          (j.castLE (by omega))).val := by
    intro i h0 h1
    unfold Host.sort2
    rw [dif_pos (by decide)]
    show BitVec.ofNat 32 ((i.along 1 (sortedFrom (fun k k' : Fin 4096 => FloatOps.cmpfTotal (F := Ideal) (φ := .f32) .gt
      (res_main_v123 V0 (i.along 1 k)) (res_main_v123 V0 (i.along 1 k')) == 1#1) (i 1))) 1).val = _
    simp only [along_one]
    rw [h0, h1]
    exact congrArg (fun k : Fin 4096 => BitVec.ofNat 32 k.val) (congrFun (along_one i _) 1)
  exact e _ (Fin.ext (Nat.zero_add _)) (Fin.ext (Nat.zero_add _))

/-- The indices of the three points. -/
theorem indices_apply (h : Args V0 q p x) (r : Fin 16384) (σ : Fin 3 → Fin 4096)
    (hσ : FirstThree (fun l => dist (p r) (r.val / 2048) (q l) (batch l)) σ) (j : Fin 3) :
    res_main_indices V0 (ix2 r j) = BitVec.ofNat 32 (σ j).val := by
  rw [indices_sorted, sortedFrom_three _ σ hσ _ (fun k l => ?_)]
  rw [v123_apply h, v123_apply h]
  show (BitVec.ofBool (decide (((-dist (p r) (r.val / 2048) (q l) (batch l) : ℝ) : EReal) < ((-dist (p r) (r.val / 2048) (q k) (batch k) : ℝ) : EReal))) == 1#1) = _
  simp only [EReal.coe_lt_coe_iff, neg_lt_neg_iff]
  by_cases hd : dist (p r) (r.val / 2048) (q k) (batch k) < dist (p r) (r.val / 2048) (q l) (batch l) <;> simp [hd]

/-- A row number as the gather reads it. -/
theorem row_number (r : Fin 16384) (j : Fin 3) (l : Fin 4096) (hl : res_main_indices V0 (ix2 r j) = BitVec.ofNat 32 l.val) :
    (broadcastInDim S16384x3x1 ![0, 1] bcast_S16384x3_S16384x3x1_0_1
          (select (cmpi .slt (res_main_indices V0) (broadcastInDim S16384x3 ![] bcast_S_S16384x3 (constantI S_ 32 0#32)))
            (addi (res_main_indices V0) (broadcastInDim S16384x3 ![] bcast_S_S16384x3 (constantI S_ 32 4096#32)))
            (res_main_indices V0)) (ix3 r j 0)).toInt.toNat = l.val := by
  pointwise
  rw [hl]
  have ht : (BitVec.ofNat 32 l.val).toInt = (l.val : ℤ) := StableHlo.Predicate.toInt_ofNat_small _ (by omega)
  have hs : IntOp.cmpi .slt (BitVec.ofNat 32 l.val) 0#32 = 0#1 := by
    show BitVec.ofBool (BitVec.slt _ _) = _
    rw [BitVec.slt_eq_decide, ht, decide_eq_false (by simp)]
    rfl
  rw [hs]
  show (BitVec.ofNat 32 l.val).toInt.toNat = _
  rw [ht]; rfl

/-- A point's offset from the query. -/
theorem v133_apply (h : Args V0 q p x) (r : Fin 16384) (j : Fin 3) (a : Fin 3) (σ : Fin 3 → Fin 4096)
    (hσ : ∀ j, res_main_indices V0 (ix2 r j) = BitVec.ofNat 32 (σ j).val) :
    res_main_v133 V0 (ix3 r j a) = ((q (σ j) a - p r a : ℝ) : EReal) := by
  pointwise [res_main_v133]
  rw [h.query, EReal.coe_sub, ← h.pos (σ j) a]
  congr 1
  exact RefGather.gather_rows _ _ _ r j a (σ j) (row_number r j (σ j) (hσ j))

/-- A point's weight. -/
theorem v140_apply (h : Args V0 q p x) (r : Fin 16384) (j : Fin 3) (u : Fin 1) (σ : Fin 3 → Fin 4096)
    (hσ : ∀ j, res_main_indices V0 (ix2 r j) = BitVec.ofNat 32 (σ j).val) :
    res_main_v140 V0 (ix3 r j u) = (weight (apart (p r) (q (σ j))) : EReal) := by
  pointwise [res_main_v140]
  simp only [v133_apply h r j _ σ hσ, ← EReal.coe_mul]
  rw [← coe_sum, show Ideal.ofBits FTy.f32 619091349#32 = _ from tiny_word, weight_coe]
  rfl

/-- A row of the layers' argument. -/
theorem v154_apply (h : Args V0 q p x) (r : Fin 16384) (i : Fin 384) (σ : Fin 3 → Fin 4096)
    (hσ : FirstThree (fun l => dist (p r) (r.val / 2048) (q l) (batch l)) σ) :
    res_main_v154 V0 (ix2 r i) = if hi : i.val < 256 then mean (fun j => x (σ j) ⟨i.val, hi⟩) (fun j => apart (p r) (q (σ j)))
      else V0 (Proc.devRef .tc main_arg3) (ix2 r ⟨i.val - 256, by omega⟩) := by
  have hi := indices_apply h r σ hσ
  pointwise [res_main_v154]
  split_ifs with h256
  · simp only [v140_apply h r _ _ σ hi]
    have e : ∀ j : Fin 3, Host.gather gather_S4096x256_S16384x3x1_S16384x3x256_2_0_n_n_0_2_1256 (V0 (Proc.devRef .tc main_arg0))
        (broadcastInDim S16384x3x1 ![0, 1] bcast_S16384x3_S16384x3x1_0_1
          (select (cmpi .slt (res_main_indices V0) (broadcastInDim S16384x3 ![] bcast_S_S16384x3 (constantI S_ 32 0#32)))
            (addi (res_main_indices V0) (broadcastInDim S16384x3 ![] bcast_S_S16384x3 (constantI S_ 32 4096#32)))
            (res_main_indices V0))) (ix3 r j ⟨i.val, h256⟩) = (x (σ j) ⟨i.val, h256⟩ : EReal) := fun j =>
      (RefGather.gather_rows _ _ _ r j ⟨i.val, h256⟩ (σ j) (row_number r j (σ j) (hi j))).trans (h.feat _ _)
    simp only [e, ← EReal.coe_mul]
    rw [← coe_sum, ← coe_sum]
    rfl
  all_goals rfl

end Cert.ReferenceIdeal.Near

end
-- ==== Proof.Drawn.lean ====
/-
  What the precondition says of the arguments: positions in the unit cube, features that are real numbers, and the points
  laid out batch by batch.
-/
module

public import proofs.«01_k».proof.Pre_drawn
public import Idealize.ShloMosaic.Lib.ReduceAll
public import Idealize.ShloMosaic.Lib.Pointwise
public import Idealize.ShloMosaic.Lib.IdealHost
public import Idealize.ShloMosaic.Lib.StableHlo.Predicate

@[expose] public section

set_option maxRecDepth 16384

noncomputable section

namespace Cert.Drawn

open Idealize.ShloMosaic Cert.Pre_drawn

variable [Cert.Pre_drawn.Facts]

/-- The array without dimensions has one index. -/
instance : Subsingleton S_.Idx := ⟨fun a b => funext fun d => d.elim0⟩

/-- A number between zero and one is a real number between zero and one. -/
theorem unit_real (z : EReal) (h0 : 0 ≤ z) (h1 : z ≤ 1) : ∃ p : ℝ, z = (p : EReal) ∧ 0 ≤ p ∧ p ≤ 1 := by
  have hb : z ≠ ⊥ := fun h => by rw [h] at h0; exact absurd h0 (by simp)
  have ht : z ≠ ⊤ := fun h => by rw [h] at h1; exact absurd h1 (by simpa using EReal.coe_ne_top 1)
  lift z to ℝ using ⟨ht, hb⟩
  exact ⟨z, rfl, by exact_mod_cast h0, by exact_mod_cast h1⟩

/-- A number whose magnitude is below infinity is a real number. -/
theorem finite_real (z : EReal) (h : max z (-z) < ⊤) : ∃ p : ℝ, z = (p : EReal) := by
  have ht : z ≠ ⊤ := fun e => by rw [e] at h; simp at h
  have hb : z ≠ ⊥ := fun e => by rw [e] at h; simp at h
  lift z to ℝ using ⟨ht, hb⟩
  exact ⟨z, rfl⟩

/-- A number of points divided by the size of a batch is the batch. -/
theorem div_word (k d : ℕ) (hk : k < 16384) (hd : d = 512 ∨ d = 2048) :
    IntOp.divsi .host (BitVec.ofNat 32 k) (BitVec.ofNat 32 d) = BitVec.ofNat 32 (k / d) := by
  have hn : (BitVec.ofNat 32 k).toNat = k := by rw [BitVec.toNat_ofNat]; omega
  have hm : (BitVec.ofNat 32 k).msb = false := BitVec.msb_eq_false_iff_two_mul_lt.mpr (by omega)
  apply BitVec.eq_of_toNat_eq
  rw [BitVec.toNat_ofNat]
  rcases hd with rfl | rfl
  · have hc : ¬ IntOp.SDivCorner (BitVec.ofNat 32 k) (BitVec.ofNat 32 512) := by
      intro h; rcases h with h | ⟨_, h⟩ <;> exact absurd h (by decide)
    simp only [IntOp.divsi, if_neg hc, BitVec.sdiv_eq, hm, show (BitVec.ofNat 32 512).msb = false from by decide, BitVec.udiv_eq,
      BitVec.toNat_udiv, hn, BitVec.toNat_ofNat, Nat.reducePow, Nat.reduceMod]
    omega
  · have hc : ¬ IntOp.SDivCorner (BitVec.ofNat 32 k) (BitVec.ofNat 32 2048) := by
      intro h; rcases h with h | ⟨_, h⟩ <;> exact absurd h (by decide)
    simp only [IntOp.divsi, if_neg hc, BitVec.sdiv_eq, hm, show (BitVec.ofNat 32 2048).msb = false from by decide, BitVec.udiv_eq,
      BitVec.toNat_udiv, hn, BitVec.toNat_ofNat, Nat.reducePow, Nat.reduceMod]
    omega

/-- Two truth values are both true when their conjunction is. -/
theorem and_one (a b : BitVec 1) : IntOp.andi a b = 1#1 ↔ a = 1#1 ∧ b = 1#1 := by revert a b; decide

/-- What the precondition says of every argument it names. -/
theorem drawn (x : FVec Ideal S4096x256 .f32) (q : FVec Ideal S4096x3 .f32) (bq : IVec S4096 32) (xs : FVec Ideal S16384x128 .f32)
    (p : FVec Ideal S16384x3 .f32) (bp : IVec S16384 32) (w6 : FVec Ideal S256x384 .f32) (w7 : FVec Ideal S256x384x8 .f32)
    (w8 : FVec Ideal S128x256 .f32) (w9 : FVec Ideal S128x256x8 .f32) (j : S_.Idx)
    (h : fn (F := Ideal) x q bq xs p bp w6 w7 w8 w9 j = 1#1) :
    (∀ l a, ∃ v : ℝ, q (ix2 l a) = (v : EReal) ∧ 0 ≤ v ∧ v ≤ 1) ∧ (∀ r a, ∃ v : ℝ, p (ix2 r a) = (v : EReal) ∧ 0 ≤ v ∧ v ≤ 1)
      ∧ (∀ l : Fin 4096, bq (ix1 l) = BitVec.ofNat 32 (l.val / 512)) ∧ (∀ r : Fin 16384, bp (ix1 r) = BitVec.ofNat 32 (r.val / 2048))
      ∧ (∀ l c, ∃ v : ℝ, x (ix2 l c) = (v : EReal)) := by
  unfold fn fn_part1 at h
  simp only [andi, and_one] at h
  obtain ⟨⟨⟨⟨h1, h2⟩, h3⟩, h4⟩, h5⟩ := h
  refine ⟨fun l a => ?_, fun r a => ?_, fun l => ?_, fun r => ?_, fun l c => ?_⟩
  · have e := Host.reduce_andi_all _ _ _ _ j h1 (ix2 l a)
    pointwise at e
    simp only [and_one, StableHlo.Predicate.ofBool_eq_one_iff, decide_eq_true_eq] at e
    exact unit_real _ e.1 e.2
  · have e := Host.reduce_andi_all _ _ _ _ j h2 (ix2 r a)
    pointwise at e
    simp only [and_one, StableHlo.Predicate.ofBool_eq_one_iff, decide_eq_true_eq] at e
    exact unit_real _ e.1 e.2
  · have e := Host.reduce_andi_all _ _ _ _ j h3 (ix1 l)
    clear h1 h2 h3 h4 h5
    pointwise at e
    rw [StableHlo.Predicate.cmpi_eq_iff] at e
    exact e.trans (div_word l.val 512 (by omega) (Or.inl rfl))
  · have e := Host.reduce_andi_all _ _ _ _ j h4 (ix1 r)
    clear h1 h2 h3 h4 h5
    pointwise at e
    rw [StableHlo.Predicate.cmpi_eq_iff] at e
    exact e.trans (div_word r.val 2048 r.isLt (Or.inr rfl))
  · have e := Host.reduce_andi_all _ _ _ _ j h5 (ix2 l c)
    clear h1 h2 h3 h4 h5
    pointwise at e
    rw [show Ideal.ofBits FTy.f32 2139095040#32 = (⊤ : EReal) by simp [Ideal.ofBits, Ideal.ieee], StableHlo.Predicate.ofBool_eq_one_iff, decide_eq_true_eq] at e
    exact finite_real _ e

end Cert.Drawn

end
-- ==== Proof.Value.lean ====
/-
  The value claim: at inputs as `setup_inputs` draws them the kernel and the reference, both read exactly, end with the same
  arrays.
-/
module

public import proofs.«01_k».proof.Defs
public import proofs.«01_k».proof.Proof.IdealValue
public import proofs.«01_k».proof.Proof.RefNear
public import proofs.«01_k».proof.Proof.Drawn
public import proofs.«01_k».proof.Proof.Gen.Pre_drawn
public import Idealize.ShloMosaic.Lib.Claim

@[expose] public section

set_option maxRecDepth 16384

noncomputable section

namespace Cert.Proof

open Idealize.ShloMosaic Idealize.SL.Sem Idealize.ShloMosaic.StableHlo

/-- The reference runs and ends with its result at `result` of its arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
      r.2.mem ((c.tc : Thread Cert.ReferenceIdeal.nD Cert.ReferenceIdeal.τ).loc Cert.ReferenceIdeal.main_v359) = Cert.ReferenceIdeal.Layers.result (launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run Cert.ReferenceIdeal.defs _ _).mono
    (fun r h c => ⟨(h c).1, (h c).2.2.2⟩) (Cert.ReferenceIdeal.Value.run (F := Ideal) m g)

/-- The reference's result array is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_drawn m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.KernelIdeal.Run.dats m 0 c).arrAt 8 (Cert.KernelIdeal.cfgs 0).N = Cert.ReferenceIdeal.Layers.result (launchContents m' c) := by
  obtain ⟨h0, h1, h2, h3, h4, h5, h6, h7, h8, h9⟩ := h
  obtain ⟨eq, ep, ebq, ebp, ex⟩ := Cert.Drawn.drawn _ _ _ _ _ _ _ _ _ _ (fun a => a.elim0) (congrFun (hpre c) _)
  choose q hq hq0 hq1 using eq
  choose p hp hp0 hp1 using ep
  choose x hx using ex
  have hR : Cert.ReferenceIdeal.Near.Args (launchContents m' c) q p x := {
    pos := fun l a => (congrFun h1 _).trans (hq l a)
    query := fun r a => (congrFun h4 _).trans (hp r a)
    posBatch := fun l => (congrFun h2 _).trans (ebq l)
    queryBatch := fun r => (congrFun h5 _).trans (ebp r)
    feat := fun l i => (congrFun h0 _).trans (hx l i) }
  have hK : Cert.KernelIdeal.Final.Args m c q p x := {
    pos := hq
    query := hp
    feat := hx
    posUnit := fun l a => ⟨hq0 l a, hq1 l a⟩
    queryUnit := fun r a => ⟨hp0 r a, hp1 r a⟩ }
  refine Cert.KernelIdeal.Final.final hK _ fun r' σ hσ n => ?_
  refine (Cert.ReferenceIdeal.Layers.result_apply (launchContents m' c) r' n).trans ?_
  simp only [Cert.ReferenceIdeal.Layers.v260_apply, Cert.ReferenceIdeal.Near.v154_apply hR r' _ σ hσ]
  have k3 : launchContents m' c (Proc.devRef .tc Cert.ReferenceIdeal.main_arg3) = m ((c.tc : Thread Cert.KernelIdeal.nD Cert.KernelIdeal.τ).loc Cert.KernelIdeal.main_arg3) := h3
  have k6 : launchContents m' c (Proc.devRef .tc Cert.ReferenceIdeal.main_arg6) = m ((c.tc : Thread Cert.KernelIdeal.nD Cert.KernelIdeal.τ).loc Cert.KernelIdeal.main_arg6) := h6
  have k7 : launchContents m' c (Proc.devRef .tc Cert.ReferenceIdeal.main_arg7) = m ((c.tc : Thread Cert.KernelIdeal.nD Cert.KernelIdeal.τ).loc Cert.KernelIdeal.main_arg7) := h7
  have k8 : launchContents m' c (Proc.devRef .tc Cert.ReferenceIdeal.main_arg8) = m ((c.tc : Thread Cert.KernelIdeal.nD Cert.KernelIdeal.τ).loc Cert.KernelIdeal.main_arg8) := h8
  have k9 : launchContents m' c (Proc.devRef .tc Cert.ReferenceIdeal.main_arg9) = m ((c.tc : Thread Cert.KernelIdeal.nD Cert.KernelIdeal.τ).loc Cert.KernelIdeal.main_arg9) := h9
  rw [k3, k6, k7, k8, k9]

/-- The value claim. -/
theorem algebraic : Cert.algebraic_KernelIdeal_ReferenceIdeal_pre_drawn := by
  pair_intro
  · run_from Cert.KernelIdeal.Run.run_main m g
  · refine (θ_run Cert.ReferenceIdeal.defs _ _).mono (fun r h c => ?_) (reference_run m' g')
    obtain ⟨hv, k0, k1, k2, k3, k4, k5, k6, k7, k8, k9⟩ := h c
    have a4 := (hagree c).2.2.2.2.1
    have a5 := (hagree c).2.2.2.2.2.1
    exact ⟨hv.trans (same m m' hpre c (hagree c)).symm, k4.trans a4, k5.trans a5, k0, k1, k2, k3, k4, k5, k6, k7, k8, k9⟩

end Cert.Proof

end
-- ==== Proof.lean ====
/- The certificate's claims, assembled from the modules under Proof/. -/
module

public import proofs.«01_k».proof.Defs
public import proofs.«01_k».proof.Proof.Frames
public import proofs.«01_k».proof.Proof.Value

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Pre_drawn.Gen.facts, frame_kernel, frame_ideal, frame_ideal_drawn, frame_reference, frame_reference_drawn, trivial,
  algebraic⟩

end Cert.Proof

end
